-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_attention [hPre_finite_attention : Cert.Pre_finite_attention.Facts] (m : (ℓ : Loc Cert.KernelIdeal.nD Cert.KernelIdeal.τ Cert.KernelIdeal.sig) → Buf (Elt Ideal) ℓ) : Prop :=
  ∀ c : Dev Cert.KernelIdeal.nD,
    (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_attention [hPre_finite_attention : Cert.Pre_finite_attention.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_attention [hKernelIdeal : Cert.KernelIdeal.Facts] [hPre_finite_attention : Cert.Pre_finite_attention.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_attention m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_attention [hReferenceIdeal : Cert.ReferenceIdeal.Facts] [hPre_finite_attention : Cert.Pre_finite_attention.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_attention m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_attention [hKernelIdeal : Cert.KernelIdeal.Facts] [hReferenceIdeal : Cert.ReferenceIdeal.Facts] [hPre_finite_attention : Cert.Pre_finite_attention.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_attention m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_attention : Cert.Pre_finite_attention.Facts),
    quiescent_Kernel (hKernel := hKernel)
    ∧ quiescent_KernelIdeal (hKernelIdeal := hKernelIdeal)
    ∧ quiescent_KernelIdeal_pre_finite_attention (hKernelIdeal := hKernelIdeal) (hPre_finite_attention := hPre_finite_attention)
    ∧ quiescent_ReferenceIdeal (hReferenceIdeal := hReferenceIdeal)
    ∧ quiescent_ReferenceIdeal_pre_finite_attention (hReferenceIdeal := hReferenceIdeal) (hPre_finite_attention := hPre_finite_attention)
    ∧ preserves_Kernel_KernelIdeal
    ∧ algebraic_KernelIdeal_ReferenceIdeal_pre_finite_attention (hKernelIdeal := hKernelIdeal) (hReferenceIdeal := hReferenceIdeal) (hPre_finite_attention := hPre_finite_attention)
-- ==== Pre_finite_attention.lean ====
abbrev S200000x96 : Shape := ⟨2, ![200000, 96]⟩
abbrev S96x128 : Shape := ⟨2, ![96, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S128x2 : Shape := ⟨2, ![128, 2]⟩
abbrev S2 : Shape := ⟨1, ![2]⟩
abbrev S_ : Shape := ⟨0, ![]⟩
abbrev S1x1 : Shape := ⟨2, ![1, 1]⟩

class Facts : Prop where
  bcast_S_S128x1 : S_.BroadcastsInDim S128x1 (![] : Fin 0 → Fin S128x1.rank)
  bcast_S_S1 : S_.BroadcastsInDim S1 (![] : Fin 0 → Fin S1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)

variable [Facts]

def fn {F : FTy → Type} [FloatOps F] (main_arg0 : FVec F S200000x96 .f32) (main_arg1 : FVec F S96x128 .f32) (main_arg2 : FVec F S128 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) (main_arg9 : FVec F S128x2 .f32) (main_arg10 : FVec F S2 .f32) : IVec S128x1 1 :=
  let main_v0 : FVec F S128x1 .f32 := Host.absf main_arg7
  let main_cst : FVec F S_ .f32 := constant S_ .f32 0x7F800000#32
  let main_v1 : FVec F S128x1 .f32 := broadcastInDim S128x1 ![] bcast_S_S128x1 main_cst
  let main_v2 : IVec S128x1 1 := cmpf .olt main_v0 main_v1
  let main_v3 : FVec F S1 .f32 := Host.absf main_arg8
  let main_cst_0 : FVec F S_ .f32 := constant S_ .f32 0x7F800000#32
  let main_v4 : FVec F S1 .f32 := broadcastInDim S1 ![] bcast_S_S1 main_cst_0
  let main_v5 : IVec S1 1 := cmpf .olt main_v3 main_v4
  let main_v6 : IVec S1x1 1 := broadcastInDim S1x1 ![1] bcast_S1_S1x1_1 main_v5
  let main_v7 : IVec S128x1 1 := broadcastInDim S128x1 ![0, 1] bcast_S1x1_S128x1_0_1 main_v6
  let main_v8 : IVec S128x1 1 := andi main_v2 main_v7
  main_v8
-- ==== Kernel.lean ====
abbrev S200000x96 : Shape := ⟨2, ![200000, 96]⟩
abbrev S96x128 : Shape := ⟨2, ![96, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S128x2 : Shape := ⟨2, ![128, 2]⟩
abbrev S2 : Shape := ⟨1, ![2]⟩
abbrev S128x96 : Shape := ⟨2, ![128, 96]⟩
abbrev S_ : Shape := ⟨0, ![]⟩
abbrev S128x7 : Shape := ⟨2, ![128, 7]⟩
abbrev S128x104 : Shape := ⟨2, ![128, 104]⟩
abbrev S128x256 : Shape := ⟨2, ![128, 256]⟩
abbrev S256x128 : Shape := ⟨2, ![256, 128]⟩
abbrev S256 : Shape := ⟨1, ![256]⟩
abbrev S256x1 : Shape := ⟨2, ![256, 1]⟩
abbrev S256x7 : Shape := ⟨2, ![256, 7]⟩
abbrev S256x136 : Shape := ⟨2, ![256, 136]⟩
abbrev S96x200000 : Shape := ⟨2, ![96, 200000]⟩
abbrev S1x128 : Shape := ⟨2, ![1, 128]⟩
abbrev S1x1 : Shape := ⟨2, ![1, 1]⟩
abbrev S1x2 : Shape := ⟨2, ![1, 2]⟩
abbrev S1x200704 : Shape := ⟨2, ![1, 200704]⟩
abbrev S1x200000 : Shape := ⟨2, ![1, 200000]⟩
abbrev S96x25088 : Shape := ⟨2, ![96, 25088]⟩
abbrev S1x25088 : Shape := ⟨2, ![1, 25088]⟩
abbrev S104x25088 : Shape := ⟨2, ![104, 25088]⟩
abbrev S136x25088 : Shape := ⟨2, ![136, 25088]⟩
abbrev S8x25088 : Shape := ⟨2, ![8, 25088]⟩
abbrev S128x25088 : Shape := ⟨2, ![128, 25088]⟩
abbrev S256x25088 : Shape := ⟨2, ![256, 25088]⟩
abbrev S1x1x25088 : Shape := ⟨3, ![1, 1, 25088]⟩
abbrev S1x1x1 : Shape := ⟨3, ![1, 1, 1]⟩
abbrev S1x1x2 : Shape := ⟨3, ![1, 1, 2]⟩

abbrev nBuf : Space → Nat
  | .hbm => 38
  | .vmem => 16
  | .smem => 2
  | _ => 0

abbrev bufTy : (tb : Table) → Fin (tcTables nBuf tb) → BufTy
  | .hbm, ⟨0, _⟩ => ⟨S200000x96, .f32⟩
  | .hbm, ⟨1, _⟩ => ⟨S96x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x2, .f32⟩
  | .hbm, ⟨10, _⟩ => ⟨S2, .f32⟩
  | .hbm, ⟨11, _⟩ => ⟨S128x96, .f32⟩
  | .hbm, ⟨12, _⟩ => ⟨S128x1, .f32⟩
  | .hbm, ⟨13, _⟩ => ⟨S_, .f32⟩
  | .hbm, ⟨14, _⟩ => ⟨S128x7, .f32⟩
  | .hbm, ⟨15, _⟩ => ⟨S128x104, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x256, .f32⟩
  | .hbm, ⟨20, _⟩ => ⟨S256x128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S256, .f32⟩
  | .hbm, ⟨25, _⟩ => ⟨S256x1, .f32⟩
  | .hbm, ⟨26, _⟩ => ⟨S_, .f32⟩
  | .hbm, ⟨27, _⟩ => ⟨S256x7, .f32⟩
  | .hbm, ⟨28, _⟩ => ⟨S256x136, .f32⟩
  | .hbm, ⟨29, _⟩ => ⟨S96x200000, .f32⟩
  | .hbm, ⟨30, _⟩ => ⟨S1x128, .f32⟩
  | .hbm, ⟨31, _⟩ => ⟨S1x1, .f32⟩
  | .hbm, ⟨32, _⟩ => ⟨S1x2, .f32⟩
  | .hbm, ⟨33, _⟩ => ⟨S1x200704, .f32⟩
  | .hbm, ⟨34, _⟩ => ⟨S1x2, .f32⟩
  | .hbm, ⟨35, _⟩ => ⟨S1x2, .f32⟩
  | .hbm, ⟨36, _⟩ => ⟨S1x1, .i32⟩
  | .hbm, ⟨37, _⟩ => ⟨S1x200000, .f32⟩
  | .local _ .vmem, ⟨0, _⟩ => ⟨S96x25088, .f32⟩
  | .local _ .vmem, ⟨1, _⟩ => ⟨S96x25088, .f32⟩
  | .local _ .vmem, ⟨2, _⟩ => ⟨S128x104, .f32⟩
  | .local _ .vmem, ⟨3, _⟩ => ⟨S256x136, .f32⟩
  | .local _ .vmem, ⟨4, _⟩ => ⟨S1x128, .f32⟩
  | .local _ .vmem, ⟨5, _⟩ => ⟨S1x1, .f32⟩
  | .local _ .vmem, ⟨6, _⟩ => ⟨S128x2, .f32⟩
  | .local _ .vmem, ⟨7, _⟩ => ⟨S1x2, .f32⟩
  | .local _ .vmem, ⟨8, _⟩ => ⟨S1x25088, .f32⟩
  | .local _ .vmem, ⟨9, _⟩ => ⟨S1x25088, .f32⟩
  | .local _ .vmem, ⟨10, _⟩ => ⟨S1x2, .f32⟩
  | .local _ .vmem, ⟨11, _⟩ => ⟨S1x2, .f32⟩
  | .local _ .vmem, ⟨12, _⟩ => ⟨S1x1, .i32⟩
  | .local _ .vmem, ⟨13, _⟩ => ⟨S104x25088, .f32⟩
  | .local _ .vmem, ⟨14, _⟩ => ⟨S136x25088, .f32⟩
  | .local _ .vmem, ⟨15, _⟩ => ⟨S1x128, .f32⟩
  | .local _ .smem, ⟨0, _⟩ => ⟨S1x1, .f32⟩
  | .local _ .smem, ⟨1, _⟩ => ⟨S1x1, .f32⟩
  | _, _ => ⟨S200000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_cst_2 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18_0 : Ref sig .tc := ⟨.hbm, 33, rfl⟩
abbrev main_v0_0 : Ref sig .tc := ⟨.hbm, 34, rfl⟩
abbrev main_v0_1 : Ref sig .tc := ⟨.hbm, 35, rfl⟩
abbrev main_v0_2 : Ref sig .tc := ⟨.hbm, 36, rfl⟩
abbrev main_v0_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.smem, 0, rfl⟩
abbrev cc0_scratch4 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v80 : BitVec 1 := Scalar.cmpi .eq arg0 c7_i32
  let v81 : BitVec 32 := Scalar.extui v80
  let c0_i32_45 : BitVec 32 := 0#32
  let v82 : BitVec 1 := Scalar.cmpi .ne v81 c0_i32_45
  v82

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S96x25088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x104 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x136 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x25088 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S200000x96 : Shape := ⟨2, ![200000, 96]⟩
abbrev S96x128 : Shape := ⟨2, ![96, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S128x2 : Shape := ⟨2, ![128, 2]⟩
abbrev S2 : Shape := ⟨1, ![2]⟩
abbrev S200000x128 : Shape := ⟨2, ![200000, 128]⟩
abbrev S1x128 : Shape := ⟨2, ![1, 128]⟩
abbrev S_ : Shape := ⟨0, ![]⟩
abbrev S200000x1 : Shape := ⟨2, ![200000, 1]⟩
abbrev S1x1 : Shape := ⟨2, ![1, 1]⟩
abbrev S1x200000 : Shape := ⟨2, ![1, 200000]⟩
abbrev S1x2 : Shape := ⟨2, ![1, 2]⟩

abbrev nBuf : Space → Nat
  | .hbm => 75
  | .vmem => 0
  | .smem => 0
  | _ => 0

abbrev bufTy : (tb : Table) → Fin (tcTables nBuf tb) → BufTy
  | .hbm, ⟨0, _⟩ => ⟨S200000x96, .f32⟩
  | .hbm, ⟨1, _⟩ => ⟨S96x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x2, .f32⟩
  | .hbm, ⟨10, _⟩ => ⟨S2, .f32⟩
  | .hbm, ⟨11, _⟩ => ⟨S200000x128, .f32⟩
  | .hbm, ⟨12, _⟩ => ⟨S1x128, .f32⟩
  | .hbm, ⟨13, _⟩ => ⟨S200000x128, .f32⟩
  | .hbm, ⟨14, _⟩ => ⟨S200000x128, .f32⟩
  | .hbm, ⟨15, _⟩ => ⟨S_, .f32⟩
  | .hbm, ⟨16, _⟩ => ⟨S200000x128, .f32⟩
  | .hbm, ⟨17, _⟩ => ⟨S200000x128, .f32⟩
  | .hbm, ⟨18, _⟩ => ⟨S200000x128, .f32⟩
  | .hbm, ⟨19, _⟩ => ⟨S1x128, .f32⟩
  | .hbm, ⟨20, _⟩ => ⟨S200000x128, .f32⟩
  | .hbm, ⟨21, _⟩ => ⟨S200000x128, .f32⟩
  | .hbm, ⟨22, _⟩ => ⟨S200000x128, .f32⟩
  | .hbm, ⟨23, _⟩ => ⟨S200000x128, .f32⟩
  | .hbm, ⟨24, _⟩ => ⟨S1x128, .f32⟩
  | .hbm, ⟨25, _⟩ => ⟨S200000x128, .f32⟩
  | .hbm, ⟨26, _⟩ => ⟨S200000x128, .f32⟩
  | .hbm, ⟨27, _⟩ => ⟨S200000x128, .f32⟩
  | .hbm, ⟨28, _⟩ => ⟨S200000x128, .f32⟩
  | .hbm, ⟨29, _⟩ => ⟨S_, .f32⟩
  | .hbm, ⟨30, _⟩ => ⟨S200000x128, .f32⟩
  | .hbm, ⟨31, _⟩ => ⟨S200000x128, .f32⟩
  | .hbm, ⟨32, _⟩ => ⟨S_, .f32⟩
  | .hbm, ⟨33, _⟩ => ⟨S200000x128, .f32⟩
  | .hbm, ⟨34, _⟩ => ⟨S200000x128, .f32⟩
  | .hbm, ⟨35, _⟩ => ⟨S200000x128, .f32⟩
  | .hbm, ⟨36, _⟩ => ⟨S200000x1, .f32⟩
  | .hbm, ⟨37, _⟩ => ⟨S1x1, .f32⟩
  | .hbm, ⟨38, _⟩ => ⟨S200000x1, .f32⟩
  | .hbm, ⟨39, _⟩ => ⟨S200000x1, .f32⟩
  | .hbm, ⟨40, _⟩ => ⟨S1x200000, .f32⟩
  | .hbm, ⟨41, _⟩ => ⟨S_, .f32⟩
  | .hbm, ⟨42, _⟩ => ⟨S1, .f32⟩
  | .hbm, ⟨43, _⟩ => ⟨S_, .f32⟩
  | .hbm, ⟨44, _⟩ => ⟨S1, .f32⟩
  | .hbm, ⟨45, _⟩ => ⟨S1, .f32⟩
  | .hbm, ⟨46, _⟩ => ⟨S1x1, .f32⟩
  | .hbm, ⟨47, _⟩ => ⟨S1x200000, .f32⟩
  | .hbm, ⟨48, _⟩ => ⟨S1x200000, .f32⟩
  | .hbm, ⟨49, _⟩ => ⟨S1x200000, .f32⟩
  | .hbm, ⟨50, _⟩ => ⟨S_, .f32⟩
  | .hbm, ⟨51, _⟩ => ⟨S1, .f32⟩
  | .hbm, ⟨52, _⟩ => ⟨S1x1, .f32⟩
  | .hbm, ⟨53, _⟩ => ⟨S1x200000, .f32⟩
  | .hbm, ⟨54, _⟩ => ⟨S1x200000, .f32⟩
  | .hbm, ⟨55, _⟩ => ⟨S1x128, .f32⟩
  | .hbm, ⟨56, _⟩ => ⟨S1x2, .f32⟩
  | .hbm, ⟨57, _⟩ => ⟨S1x2, .f32⟩
  | .hbm, ⟨58, _⟩ => ⟨S1x2, .f32⟩
  | .hbm, ⟨59, _⟩ => ⟨S_, .f32⟩
  | .hbm, ⟨60, _⟩ => ⟨S1, .f32⟩
  | .hbm, ⟨61, _⟩ => ⟨S_, .f32⟩
  | .hbm, ⟨62, _⟩ => ⟨S1, .f32⟩
  | .hbm, ⟨63, _⟩ => ⟨S1, .f32⟩
  | .hbm, ⟨64, _⟩ => ⟨S1x1, .f32⟩
  | .hbm, ⟨65, _⟩ => ⟨S1x2, .f32⟩
  | .hbm, ⟨66, _⟩ => ⟨S1x2, .f32⟩
  | .hbm, ⟨67, _⟩ => ⟨S1x2, .f32⟩
  | .hbm, ⟨68, _⟩ => ⟨S_, .f32⟩
  | .hbm, ⟨69, _⟩ => ⟨S1, .f32⟩
  | .hbm, ⟨70, _⟩ => ⟨S1x1, .f32⟩
  | .hbm, ⟨71, _⟩ => ⟨S1x2, .f32⟩
  | .hbm, ⟨72, _⟩ => ⟨S1x2, .f32⟩
  | .hbm, ⟨73, _⟩ => ⟨S1x1, .f32⟩
  | .hbm, ⟨74, _⟩ => ⟨S1x1, .i32⟩
  | _, _ => ⟨S200000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_values : Ref sig .tc := ⟨.hbm, 73, rfl⟩
abbrev main_indices : Ref sig .tc := ⟨.hbm, 74, rfl⟩

abbrev nD : Nat := 1
abbrev τ : Topo := Topo.v7x

variable {F : FTy → Type} [FloatOps F]
-- ==== Proof.Launch.lean ====
/-
The launch's layout facts: the staging cells and windows, the grid's eight points, the buffers conjoined one by
one, and the host program as a chain of its items (the printed set-up, without the segment form it does not need).
-/
module

public import proofs.«01_k».proof.Proof.Gen.KernelIdeal
public import Idealize.ShloMosaic.Lib.Pipeline.Kit
public import Idealize.ShloMosaic.Lib.Pipeline.Regions

@[expose] public section

noncomputable section

namespace Cert.Proof.K

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 11, 0 < (spec0 w).block.numel := by decide
/-- The windows' arrays and the staging memrefs are whole buffers. -/
theorem arr_whole0 : ∀ w : Fin 11, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | ⟨_ + 11, h⟩ => absurd h (Nat.not_lt.2 (Nat.le_add_left _ _))
theorem stage_whole0 : ∀ (w : Fin 11) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | ⟨_ + 11, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 8 points. -/
theorem N_0 : grid0.N = 8 := by decide
/-- Point 0. -/
def t0_0 : Fin grid0.N := ⟨0, by rw [N_0]; decide⟩
/-- Point 1. -/
def t0_1 : Fin grid0.N := ⟨1, by rw [N_0]; decide⟩
/-- Point 2. -/
def t0_2 : Fin grid0.N := ⟨2, by rw [N_0]; decide⟩
/-- Point 3. -/
def t0_3 : Fin grid0.N := ⟨3, by rw [N_0]; decide⟩
/-- Point 4. -/
def t0_4 : Fin grid0.N := ⟨4, by rw [N_0]; decide⟩
/-- Point 5. -/
def t0_5 : Fin grid0.N := ⟨5, by rw [N_0]; decide⟩
/-- Point 6. -/
def t0_6 : Fin grid0.N := ⟨6, by rw [N_0]; decide⟩
/-- Point 7. -/
def t0_7 : Fin grid0.N := ⟨7, by rw [N_0]; decide⟩
/-- Every point is one of them. -/
theorem fin_N0 (t : Fin grid0.N) : t = t0_0 ∨ t = t0_1 ∨ t = t0_2 ∨ t = t0_3 ∨ t = t0_4 ∨ t = t0_5 ∨ t = t0_6 ∨ t = t0_7 := by
  obtain ⟨t, ht⟩ := t; have := N_0; simp only [t0_0, t0_1, t0_2, t0_3, t0_4, t0_5, t0_6, t0_7, Fin.mk.injEq]; omega

/-- The windows conjoined one by one. -/
theorem bigSep_W0 {M : Type} [URA M] (Φ : Fin 11 → sProp M) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
/-- The core's scoped buffers that are no staging buffer of custom_call 0, each whole at some contents:
    `cc0_scratch0`, `cc0_scratch1`, `cc0_scratch2`, `cc0_scratch3`, `cc0_scratch4`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f) ∗ (∃ f : Buf Val ((c : Thread nD τ).loc cc0_scratch3), ((c : Thread nD τ).loc cc0_scratch3) ↦{fullShare} f) ∗ (∃ f : Buf Val ((c : Thread nD τ).loc cc0_scratch4), ((c : Thread nD τ).loc cc0_scratch4) ↦{fullShare} f)) :=
  Pipeline.scopedRest_eq_of_list spec0 c [cc0_scratch0, cc0_scratch1, cc0_scratch2, cc0_scratch3, cc0_scratch4] (by decide) (by decide)
-- the unscoped rest of custom_call 0 is 27 buffers: not enumerated (routed whole, as `Pipeline.unscopedRest`)

/-! ## @main as segments and as a chain of items (Lib/Pipeline/Regions.lean `θ_run_regions_kit`, `Pipeline.chain`) -/

/-- 22 host operations of @_run (main_call0), in order. -/
abbrev hostOps0 : List (HloOp τ sig (Elt F)) :=
  [ StableHlo.TRef.unary (.of main_arg1 : StableHlo.TRef sig ⟨S96x128, .f32⟩) (.of main_call0_v0 : StableHlo.TRef sig ⟨S128x96, .f32⟩) (transpose S128x96 [1, 0] · transposes_S96x128_S128x96_1_0),
    StableHlo.TRef.reshape (.of main_arg2 : StableHlo.TRef sig ⟨S128, .f32⟩) (.of main_call0_v1 : StableHlo.TRef sig ⟨S128x1, .f32⟩) (rfl : (.f32 : EltTy) = .f32) shapeCasts_S128_S128x1,
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v2 : StableHlo.TRef sig ⟨S128x7, .f32⟩) (broadcastInDim S128x7 ![] bcast_S_S128x7),
    StableHlo.TRef.nary (Ts := ![⟨S128x96, .f32⟩, ⟨S128x1, .f32⟩, ⟨S128x7, .f32⟩]) (Fin.cons (.of main_call0_v0 : StableHlo.TRef sig ⟨S128x96, .f32⟩) (Fin.cons (.of main_call0_v1 : StableHlo.TRef sig ⟨S128x1, .f32⟩) (Fin.cons (.of main_call0_v2 : StableHlo.TRef sig ⟨S128x7, .f32⟩) (fun k => k.elim0)))) (.of main_call0_v3 : StableHlo.TRef sig ⟨S128x104, .f32⟩) (fun u => (concatenate S128x104 1 [⟨S128x96, (u 0 : (⟨S128x96, .f32⟩ : BufTy).Contents (Elt F))⟩, ⟨S128x1, (u 1 : (⟨S128x1, .f32⟩ : BufTy).Contents (Elt F))⟩, ⟨S128x7, (u 2 : (⟨S128x7, .f32⟩ : BufTy).Contents (Elt F))⟩] concatenates_S128x96_S128x1_S128x7_S128x104_d1 : (⟨S128x104, .f32⟩ : BufTy).Contents (Elt F))),
    StableHlo.TRef.nullary (.of main_call0_cst_0 : StableHlo.TRef sig ⟨S_, .f32⟩) (constant S_ .f32 0x3F000000#32),
    StableHlo.TRef.unary (.of main_call0_cst_0 : StableHlo.TRef sig ⟨S_, .f32⟩) (.of main_call0_v4 : StableHlo.TRef sig ⟨S128x128, .f32⟩) (broadcastInDim S128x128 ![] bcast_S_S128x128),
    StableHlo.TRef.binary (.of main_arg5 : StableHlo.TRef sig ⟨S128x128, .f32⟩) (.of main_call0_v4 : StableHlo.TRef sig ⟨S128x128, .f32⟩) (.of main_call0_v5 : StableHlo.TRef sig ⟨S128x128, .f32⟩) mulf,
    StableHlo.TRef.binary (.of main_arg3 : StableHlo.TRef sig ⟨S128x128, .f32⟩) (.of main_call0_v5 : StableHlo.TRef sig ⟨S128x128, .f32⟩) (.of main_call0_v6 : StableHlo.TRef sig ⟨S128x256, .f32⟩) (fun a b => concatenate S128x256 1 [⟨S128x128, a⟩, ⟨S128x128, b⟩] concatenates_S128x128_S128x128_S128x256_d1),
    StableHlo.TRef.unary (.of main_call0_v6 : StableHlo.TRef sig ⟨S128x256, .f32⟩) (.of main_call0_v7 : StableHlo.TRef sig ⟨S256x128, .f32⟩) (transpose S256x128 [1, 0] · transposes_S128x256_S256x128_1_0),
    StableHlo.TRef.nullary (.of main_call0_cst_1 : StableHlo.TRef sig ⟨S_, .f32⟩) (constant S_ .f32 0x3F000000#32),
    StableHlo.TRef.unary (.of main_call0_cst_1 : StableHlo.TRef sig ⟨S_, .f32⟩) (.of main_call0_v8 : StableHlo.TRef sig ⟨S128, .f32⟩) (broadcastInDim S128 ![] bcast_S_S128),
    StableHlo.TRef.binary (.of main_arg6 : StableHlo.TRef sig ⟨S128, .f32⟩) (.of main_call0_v8 : StableHlo.TRef sig ⟨S128, .f32⟩) (.of main_call0_v9 : StableHlo.TRef sig ⟨S128, .f32⟩) mulf,
    StableHlo.TRef.binary (.of main_arg4 : StableHlo.TRef sig ⟨S128, .f32⟩) (.of main_call0_v9 : StableHlo.TRef sig ⟨S128, .f32⟩) (.of main_call0_v10 : StableHlo.TRef sig ⟨S256, .f32⟩) (fun a b => concatenate S256 0 [⟨S128, a⟩, ⟨S128, b⟩] concatenates_S128_S128_S256_d0),
    StableHlo.TRef.reshape (.of main_call0_v10 : StableHlo.TRef sig ⟨S256, .f32⟩) (.of main_call0_v11 : StableHlo.TRef sig ⟨S256x1, .f32⟩) (rfl : (.f32 : EltTy) = .f32) shapeCasts_S256_S256x1,
    StableHlo.TRef.nullary (.of main_call0_cst_2 : StableHlo.TRef sig ⟨S_, .f32⟩) (constant S_ .f32 0x00000000#32),
    StableHlo.TRef.unary (.of main_call0_cst_2 : StableHlo.TRef sig ⟨S_, .f32⟩) (.of main_call0_v12 : StableHlo.TRef sig ⟨S256x7, .f32⟩) (broadcastInDim S256x7 ![] bcast_S_S256x7),
    StableHlo.TRef.nary (Ts := ![⟨S256x128, .f32⟩, ⟨S256x1, .f32⟩, ⟨S256x7, .f32⟩]) (Fin.cons (.of main_call0_v7 : StableHlo.TRef sig ⟨S256x128, .f32⟩) (Fin.cons (.of main_call0_v11 : StableHlo.TRef sig ⟨S256x1, .f32⟩) (Fin.cons (.of main_call0_v12 : StableHlo.TRef sig ⟨S256x7, .f32⟩) (fun k => k.elim0)))) (.of main_call0_v13 : StableHlo.TRef sig ⟨S256x136, .f32⟩) (fun u => (concatenate S256x136 1 [⟨S256x128, (u 0 : (⟨S256x128, .f32⟩ : BufTy).Contents (Elt F))⟩, ⟨S256x1, (u 1 : (⟨S256x1, .f32⟩ : BufTy).Contents (Elt F))⟩, ⟨S256x7, (u 2 : (⟨S256x7, .f32⟩ : BufTy).Contents (Elt F))⟩] concatenates_S256x128_S256x1_S256x7_S256x136_d1 : (⟨S256x136, .f32⟩ : BufTy).Contents (Elt F))),
    StableHlo.TRef.unary (.of main_arg0 : StableHlo.TRef sig ⟨S200000x96, .f32⟩) (.of main_call0_v14 : StableHlo.TRef sig ⟨S96x200000, .f32⟩) (transpose S96x200000 [1, 0] · transposes_S200000x96_S96x200000_1_0),
    StableHlo.TRef.reshape (.of main_arg7 : StableHlo.TRef sig ⟨S128x1, .f32⟩) (.of main_call0_v15 : StableHlo.TRef sig ⟨S1x128, .f32⟩) (rfl : (.f32 : EltTy) = .f32) shapeCasts_S128x1_S1x128,
    StableHlo.TRef.reshape (.of main_arg8 : StableHlo.TRef sig ⟨S1, .f32⟩) (.of main_call0_v16 : StableHlo.TRef sig ⟨S1x1, .f32⟩) (rfl : (.f32 : EltTy) = .f32) shapeCasts_S1_S1x1,
    StableHlo.TRef.reshape (.of main_arg10 : StableHlo.TRef sig ⟨S2, .f32⟩) (.of main_call0_v17 : StableHlo.TRef sig ⟨S1x2, .f32⟩) (rfl : (.f32 : EltTy) = .f32) shapeCasts_S2_S1x2 ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.reshape_bufs_sub .., StableHlo.nullary_bufs_sub .., StableHlo.unary_bufs_sub .., StableHlo.nary_bufs_sub .., StableHlo.unary_bufs_sub .., StableHlo.reshape_bufs_sub .., StableHlo.reshape_bufs_sub .., StableHlo.reshape_bufs_sub ..⟩
/-- 1 host operation of @_run (main_call0), in order. -/
abbrev hostOps1 : List (HloOp τ sig (Elt F)) :=
  [ StableHlo.TRef.unary (.of main_call0_v18_0 : StableHlo.TRef sig ⟨S1x200704, .f32⟩) (.of main_v0_3 : StableHlo.TRef sig ⟨S1x200000, .f32⟩) (extractStridedSlice S1x200000 ![0, 0] · slices_S1x200704_S1x200000_0_0) ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  StableHlo.unary_bufs_sub ..
/-- This statement, from @_run (main_call0), is the chain of its own items: each stretch of the function's operations aligned
    one at a time, every other item taken whole, then `chain_rfl`. -/
theorem main_chain_main_call0 : fn_run.body (F := F) (.of main_arg0) (.of main_arg1) (.of main_arg2) (.of main_arg3) (.of main_arg4) (.of main_arg5) (.of main_arg6) (.of main_arg7) (.of main_arg8) (.of main_arg9) (.of main_arg10) main_call0 = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [StableHlo.chain_seq_cons, Pipeline.chain_cons, StableHlo.chain_seq_cons]
  chain_rfl

/-- `main_chain` with each call that gives several items as one item, so that every statement has its own item. -/
theorem main_chain_calls (c : Dev nD) : main (F := F) c = (Pipeline.chain
  [ fn_run.body (F := F) (.of main_arg0) (.of main_arg1) (.of main_arg2) (.of main_arg3) (.of main_arg4) (.of main_arg5) (.of main_arg6) (.of main_arg7) (.of main_arg8) (.of main_arg9) (.of main_arg10) main_call0 ] : Prog (TpuEff nD τ sig (Elt F) (Pipeline.Sig Λ₀ (Fin 1) fun p => (pcfgs (F := F) p).Adm) .tc) PUnit) := by
  rewrite [Pipeline.chain_cons]
  chain_rfl

/-- `main` is the chain of its items (`Pipeline.chain`): operation stretches, regions, loops and branches in
    order, a module-local function called from it a stretch of its own or several items. It follows from
    `main_chain_calls`, in which each call that gives several items is one item, and from each such call's own chain, by
    the monad laws. -/
theorem main_chain (c : Dev nD) : main (F := F) c = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [main_chain_calls, main_chain_main_call0]
  simp only [Pipeline.chain, Pipeline.chainK, bind_assoc, pure_bind, bind_pure_unit]

end Cert.Proof.K

end
-- ==== Proof.Kit.lean ====
/-
The launch set-up: the host program around the one region, the contents of the arrays when the region is
entered, and the arguments at the end of the run.  Everything here holds at every scalar type.
-/
module

public import proofs.«01_k».proof.Proof.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The contents of core `c`'s buffers when the region is entered. -/
abbrev V0 (c : Dev nD) : Valuation τ sig (Elt F) := StableHlo.after (List.flatten [hostOps0]) (fun b => m (c, b))
/-- The same, at a TensorCore reference. -/
abbrev V (c : Dev nD) (b : Ref sig .tc) : Buf (Elt F) ((c : Thread nD τ).loc b) := V0 m c (Proc.devRef .tc b)

/-- The host operations before the region allocate nothing. -/
theorem pre_fresh : (hostOps0 : List (HloOp τ sig (Elt F))).Forall fun op => op.fresh = ∅ := by
  simp only [List.Forall]; repeat' constructor

set_option maxHeartbeats 800000 in
/-- The host program is the lines before the region, the region, and the lines after it. -/
theorem hmain (𝒱₀ : Variants) : Pipeline.HMainK (Ix := Unit) (Name := ℕ) (U := UR sig nD τ) (Lvl := ℕ) cfgs 0 defs₀ 𝒱₀ m
    (main (F := F)) (V m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact pre_fresh) main_chain

/-- The line after the region touches unscoped buffers only. -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

/-- The line after the region allocates nothing. -/
theorem post_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl

/-- The line after the region writes the result `main_v0_3` and nothing else. -/
theorem post_writes (b : Ref sig .tc) (hb : b ≠ main_v0_3) :
    ∀ op ∈ (hostOps1 : List (HloOp τ sig (Elt F))), Proc.devRef .tc b ∉ op.writes := by
  intro op hop
  obtain rfl := List.mem_singleton.mp hop
  simp only [StableHlo.unary_writes, Finset.mem_singleton]
  exact StableHlo.devRef_ne_of_ne hb

/-- The line after the region writes no array of the pipeline. -/
theorem post_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact post_writes _ ((by decide : ∀ w, Pipeline.arrRef spec0 w ≠ main_v0_3) w) op hop

/-- The buffers the host program writes before the region. -/
def written : List (Ref sig .tc) :=
  [main_call0_v0, main_call0_v1, main_call0_cst, main_call0_v2, main_call0_v3, main_call0_cst_0, main_call0_v4,
   main_call0_v5, main_call0_v6, main_call0_v7, main_call0_cst_1, main_call0_v8, main_call0_v9, main_call0_v10,
   main_call0_v11, main_call0_cst_2, main_call0_v12, main_call0_v13, main_call0_v14, main_call0_v15,
   main_call0_v16, main_call0_v17]

/-- A buffer outside `written` is found by the region as launched. -/
theorem V_keep (c : Dev nD) (b : Ref sig .tc) (hb : b ∉ written) : V m c b = m ((c : Thread nD τ).loc b) :=
  StableHlo.after_of_forall_not_mem (b := Proc.devRef .tc b) _ _ (List.forall_iff_forall_mem.mp (by
    have hne : ∀ r ∈ written, b ≠ r := fun r hr h => hb (h ▸ hr)
    simp only [hostOps0, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (hne _ (by decide))))

/-- A buffer outside `written` that is no array of the pipeline and not `main_v0_3` ends as launched. -/
theorem end_keep (dats : (p : Fin 1) → (c : Dev nD) → Dat τ (Elt F) Unit ℕ (UR sig nD τ) ℕ (cfgs p) c) (c : Dev nD)
    (b : Ref sig .tc) (hb : b ∉ written) (h3 : b ≠ main_v0_3) (ha : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (by
      simpa only [List.flatten_cons, List.flatten_nil, List.append_nil] using post_writes b h3),
    Pipeline.withArrays_of_ne _ c (V0 m c) _ b ha]
  exact V_keep m c b hb

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- What a run of the region leaves of the arguments: each ends as launched. -/
theorem args_of {dats : (p : Fin 1) → (c : Dev nD) → Dat τ (Elt F) Unit ℕ (UR sig nD τ) ℕ (cfgs p) c}
    (hA : ∀ c w, (dats 0 c).A w = V m c (Pipeline.arrRef spec0 w)) {r}
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) := by
  have key : ∀ b : Ref sig .tc, b ∈ Pipeline.restRefs sig spec0 → b ∉ written → b ≠ main_v0_3 →
      (∀ w, Pipeline.arrRef spec0 w ≠ b) → r.2.mem ((c.tc : Thread nD τ).loc b) = m ((c.tc : Thread nD τ).loc b) :=
    fun b hr hb h3 ha => ((h c).2 b hr).trans (end_keep m dats c b hb h3 ha)
  refine ⟨?_, ?_, ?_, ?_, ?_, ?_, ?_, ?_, ?_, ?_, ?_⟩
  case refine_10 => exact ((h c).1 5).trans (((dats 0 c).arrAt_in 5 rfl _).trans ((hA c 5).trans (V_keep m c main_arg9 (by decide))))
  all_goals exact key _ (Pipeline.mem_restRefs_of _ (by decide) (by decide)) (by decide) (by decide) (by decide)

end Cert.Proof.K

end
-- ==== Proof.Steps.lean ====
/-
Loads and stores of a memref owned at known values: what each step reads and what it leaves.
-/
module

public import proofs.«01_k».proof.Proof.Kit
public import Idealize.ShloMosaic.Lib.VecWindow
public import Idealize.ShloMosaic.Lib.Pipeline.Value

@[expose] public section

noncomputable section

namespace Cert.Proof.Steps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) {c : Thread nD τ} (bd : Option 𝒱.V) (E : Set Name)
  {α : Type} {s : Shape} {e : EltTy} {cs : CoreSpace}

/-- A load through a rectangle reads the owned values at the rectangle's indices. -/
theorem own_load {m : Memref sig c.2.kind cs s e} {r : Rect s} {hl : m.view.LoadsAt r.toLoadRect}
    {k : (r.shape.Idx → Val e) → Prog (TpuEff nD τ sig Val Λ c.2) α} {q : PosShare TreeShare} {X : s.Idx → Val e} {Q : α → sProp 𝕄} :
    (owns c m q X : sProp 𝕄)
      ⊢ iprop(((owns c m q X) -∗ wp frame (wpE defs 𝒱 c bd) E (k (View.ld X r)) Q)
        -∗ wp frame (wpE defs 𝒱 c bd) E (.op (.load m r.toLoadRect hl) k) Q) := by
  unfold owns
  iintro ⟨%f, %hf, H⟩ Hk
  iapply (wp_load (defs := defs) 𝒱 c bd E (Q := Q) (m := m) (r := r.toLoadRect) (hl := hl) (k := k) (q := q) (f := f)
    (S := m.view.set) (m.view.setOn_subset_set _)) $$ H
  iintro H
  subst hf
  iapply Hk
  iexists f; isplitr; · ipureintro; rfl
  iexact H

/-- A load of the whole buffer reads the owned values. -/
theorem own_load_all {m : Memref sig c.2.kind cs s e} {off : Fin s.rank → Nat} {inb : ∀ a, off a + s.size a ≤ s.size a}
    {hl : m.view.LoadsAt (Rect.unit (s := s) off s.size inb).toLoadRect}
    {k : (s.Idx → Val e) → Prog (TpuEff nD τ sig Val Λ c.2) α} {q : PosShare TreeShare} {X : s.Idx → Val e} {Q : α → sProp 𝕄}
    (hz : off = fun _ => 0) :
    (owns c m q X : sProp 𝕄)
      ⊢ iprop(((owns c m q X) -∗ wp frame (wpE defs 𝒱 c bd) E (k X) Q)
        -∗ wp frame (wpE defs 𝒱 c bd) E (.op (.load m (Rect.unit (s := s) off s.size inb).toLoadRect hl) k) Q) := by
  have h := own_load (defs := defs) 𝒱 bd E (Q := Q) (m := m) (r := Rect.unit (s := s) off s.size inb) (hl := hl)
    (k := k) (q := q) (X := X)
  rwa [View.ld_unit_zero hz] at h

/-- An unmasked store through a unit-stride rectangle leaves the owned values with the payload put over it. -/
theorem own_store {m : Memref sig c.2.kind cs s e} (hm : m.IsWhole) {off size : Fin s.rank → Nat} {inb : ∀ a, off a + size a ≤ s.size a}
    {w : (Rect.unit (s := s) off size inb).shape.Idx → Val e}
    {hx : (m.access (Rect.unit (s := s) off size inb)).Stores Finset.univ}
    {h1 : Finset.univ = Finset.univ ∨ ∀ a, (Rect.unit (s := s) off size inb).stride a = 1}
    {k : PUnit → Prog (TpuEff nD τ sig Val Λ c.2) α} {X : s.Idx → Val e} {Q : α → sProp 𝕄} :
    (owns c m fullShare X : sProp 𝕄)
      ⊢ iprop(((owns c m fullShare (VecWindow.put X off size w)) -∗ wp frame (wpE defs 𝒱 c bd) E (k ⟨⟩) Q)
        -∗ wp frame (wpE defs 𝒱 c bd) E (.op (.store m (Rect.unit (s := s) off size inb) w Finset.univ hx h1) k) Q) := by
  unfold owns
  iintro ⟨%f, %hf, H⟩ Hk
  iapply (wp_store (defs := defs) 𝒱 c bd E (Q := Q) (m := m) (r := Rect.unit (s := s) off size inb) (w := w)
    (Mk := Finset.univ) (hx := hx) (hm := h1) (k := k) (f := f)
    (S := m.view.set) (by
      rw [View.setOn_univ]; exact View.set_slice_subset _ _)) $$ H
  iintro H
  subst hf
  iapply Hk
  iexists _; isplitr; swap; · iexact H
  ipureintro
  have h := View.read_writes_cons_put m.view f inb w [] (off' := off) rfl
  exact h

/-- A store of the whole buffer leaves the payload. -/
theorem own_store_all {m : Memref sig c.2.kind cs s e} (hm : m.IsWhole) {off : Fin s.rank → Nat} {inb : ∀ a, off a + s.size a ≤ s.size a}
    {w : s.Idx → Val e}
    {hx : (m.access (Rect.unit (s := s) off s.size inb)).Stores Finset.univ}
    {h1 : Finset.univ = Finset.univ ∨ ∀ a, (Rect.unit (s := s) off s.size inb).stride a = 1}
    {k : PUnit → Prog (TpuEff nD τ sig Val Λ c.2) α} {X : s.Idx → Val e} {Q : α → sProp 𝕄} (hz : off = fun _ => 0) :
    (owns c m fullShare X : sProp 𝕄)
      ⊢ iprop(((owns c m fullShare w) -∗ wp frame (wpE defs 𝒱 c bd) E (k ⟨⟩) Q)
        -∗ wp frame (wpE defs 𝒱 c bd) E (.op (.store m (Rect.unit (s := s) off s.size inb) w Finset.univ hx h1) k) Q) := by
  have h := own_store (defs := defs) 𝒱 bd E (Q := Q) hm (inb := inb) (w := w) (hx := hx) (h1 := h1) (k := k) (X := X)
  have hp : VecWindow.put X off s.size w = w := by
    funext y
    unfold VecWindow.put
    rw [dif_pos (fun a => by subst hz; exact ⟨Nat.zero_le _, by simpa using (y a).isLt⟩)]
    congr 1
    funext a
    apply Fin.ext
    subst hz
    rfl
  rwa [hp] at h

end Cert.Proof.Steps

end
-- ==== Proof.State.lean ====
/-
The state the kernel carries from one grid point to the next, and one point's step on it.
-/
module

public import proofs.«01_k».proof.Proof.Steps
public import proofs.«01_k».proof.Proof.Gen.KernelIdeal.Skeleton

@[expose] public section

set_option maxRecDepth 16384

noncomputable section

namespace Cert.Proof.K

open Cert.KernelIdeal Cert.KernelIdeal.Gen Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- The number one, which the extra rows of both augmented matrices hold. -/
abbrev one : Elt F .f32 := Scalar.ofBits .f32 0x3F800000#32

/-- The masked input block over eight rows of ones. -/
def hAug (i : grid0.Coords) (x : Vec F S96x25088 .f32) : Vec F S104x25088 .f32 :=
  VecWindow.put (fun _ => one) ![0, 0] S96x25088.size (k0_pay9 i x)

/-- The rectified first layer over eight rows of ones. -/
def xAug (i : grid0.Coords) (x : Vec F S96x25088 .f32) (w : Vec F S128x104 .f32) : Vec F S136x25088 .f32 :=
  VecWindow.put (fun _ => one) ![0, 0] S128x25088.size (k0_pay10 w (hAug i x))

/-- The tanh branch of the gate. -/
def tA (i : grid0.Coords) (x : Vec F S96x25088 .f32) (w : Vec F S128x104 .f32) (u : Vec F S256x136 .f32) : FVec F S128x25088 .f32 :=
  k0_pay12 u (xAug i x w)
/-- The other branch of the gate. -/
def tB (i : grid0.Coords) (x : Vec F S96x25088 .f32) (w : Vec F S128x104 .f32) (u : Vec F S256x136 .f32) : FVec F S128x25088 .f32 :=
  k0_pay13 u (xAug i x w)

/-- The raw attention scores of the block. -/
def score (i : grid0.Coords) (x : Vec F S96x25088 .f32) (w : Vec F S128x104 .f32) (u : Vec F S256x136 .f32)
    (a : Vec F S1x128 .f32) (b : Vec F S1x1 .f32) : FVec F S1x25088 .f32 :=
  k0_pay14 (tA i x w u) (tB i x w u) a b

/-- The carried state: the weighted sum, the running maximum, the running sum of exponentials. -/
structure St (F : FTy → Type) where
  acc : Vec F S1x128 .f32
  mx : Elt F .f32
  sm : Elt F .f32

/-- The state the first point starts from. -/
def St.init : St F := ⟨k0_pay7, Scalar.ofBits .f32 0xFF800000#32, Scalar.ofBits .f32 0x00000000#32⟩

/-- One point's step on the carried state. -/
def St.next (i : grid0.Coords) (x : Vec F S96x25088 .f32) (w : Vec F S128x104 .f32) (u : Vec F S256x136 .f32)
    (a : Vec F S1x128 .f32) (b : Vec F S1x1 .f32) (st : St F) : St F where
  acc := k0_pay1 (k0_pay16 (k0_pay8 i) (tA i x w u) (tB i x w u) a b st.mx)
    (k0_pay17 (k0_pay8 i) (tA i x w u) (tB i x w u) a b st.mx) (k0_pay10 w (hAug i x)) st.acc
  mx := k0_pay15 (k0_pay8 i) (tA i x w u) (tB i x w u) a b st.mx
  sm := k0_pay18 (k0_pay8 i) (tA i x w u) (tB i x w u) a b st.mx st.sm

/-- Whether the point is the first. -/
abbrev isFirst (i : grid0.Coords) : Prop :=
  Scalar.cmpi .ne (Scalar.extui (Scalar.cmpi .eq (BitVec.ofNat 32 (i 0).val) 0#32) : BitVec 32) 0#32 = 1#1

/-- Every row of `X` from row `n` on holds ones. -/
def OnesFrom {d : Fin 2 → Nat} (n : Nat) (X : (⟨2, d⟩ : Shape).Idx → Elt F .f32) : Prop :=
  ∀ y, n ≤ (y 0).val → X y = one

/-- Rows put over a matrix that holds ones below them do not depend on what the rows held. -/
theorem OnesFrom.put_eq {d : Fin 2 → Nat} {n k : Nat} {X : (⟨2, d⟩ : Shape).Idx → Elt F .f32} (h : OnesFrom n X)
    (w : ((a : Fin 2) → Fin ((![n, k] : Fin 2 → Nat) a)) → Elt F .f32) (hk : d 1 ≤ k) :
    VecWindow.put (s := ⟨2, d⟩) X ![0, 0] ![n, k] w = VecWindow.put (s := ⟨2, d⟩) (fun _ => one) ![0, 0] ![n, k] w := by
  funext y
  unfold VecWindow.put
  split
  · rfl
  · rename_i hn
    refine h y ?_
    by_contra hlt
    refine hn fun a => ?_
    match a with
    | ⟨0, _⟩ => exact ⟨Nat.zero_le _, by show (y 0).val < 0 + n; omega⟩
    | ⟨1, _⟩ => exact ⟨Nat.zero_le _, by show (y 1).val < 0 + k; have : (y 1).val < d 1 := (y 1).isLt; omega⟩

/-- Below the rows put, the ones stay. -/
theorem onesFrom_put {d : Fin 2 → Nat} {n k : Nat} (w : ((a : Fin 2) → Fin ((![n, k] : Fin 2 → Nat) a)) → Elt F .f32) :
    OnesFrom n (VecWindow.put (s := ⟨2, d⟩) (fun _ => one) ![0, 0] ![n, k] w) := by
  intro y hy
  unfold VecWindow.put
  rw [dif_neg]
  intro h
  have := (h 0).2
  change (y 0).val < 0 + n at this
  omega

/-- Eight rows of ones put at the end leave ones from there on. -/
theorem onesFrom_put_end {d : Fin 2 → Nat} {n k j : Nat} (X : (⟨2, d⟩ : Shape).Idx → Elt F .f32)
    (w : ((a : Fin 2) → Fin ((![j, k] : Fin 2 → Nat) a)) → Elt F .f32) (hw : ∀ x, w x = one) (hk : d 1 ≤ k) (hn : d 0 ≤ n + j) :
    OnesFrom n (VecWindow.put (s := ⟨2, d⟩) X ![n, 0] ![j, k] w) := by
  intro y hy
  unfold VecWindow.put
  rw [dif_pos]
  · exact hw _
  · intro a
    match a with
    | ⟨0, _⟩ => exact ⟨hy, by show (y 0).val < n + j; have : (y 0).val < d 0 := (y 0).isLt; omega⟩
    | ⟨1, _⟩ => exact ⟨Nat.zero_le _, by show (y 1).val < 0 + k; have : (y 1).val < d 1 := (y 1).isLt; omega⟩

theorem pay5_one (x) : (k0_pay5 : FVec F S8x25088 .f32) x = one := by
  unfold k0_pay5; simp only [shapeCast_self]; rfl
theorem pay6_one (x) : (k0_pay6 : FVec F S8x25088 .f32) x = one := by
  unfold k0_pay6; simp only [shapeCast_self]; rfl

/-- The offsets of a whole load or store are zero. -/
theorem off0 : (![0, 0] : Fin 2 → Nat) = fun _ => 0 := funext fun a => by fin_cases a <;> rfl

end Cert.Proof.K

end
-- ==== Proof.Mask.lean ====
/-
The column mask: which columns of a point's block lie inside the array, and that what a staging buffer holds past
the array's end does not reach any value.
-/
module

public import proofs.«01_k».proof.Proof.Kit
public import proofs.«01_k».proof.Proof.State
public import Idealize.ShloMosaic.Lib.WordCmp
public import Idealize.ShloMosaic.Lib.ValueLayout

@[expose] public section

set_option maxRecDepth 16384

noncomputable section

namespace Cert.Proof.K

open Cert.KernelIdeal Cert.KernelIdeal.Gen Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

open Idealize.ShloMosaic.ValueIdx

variable {F : FTy → Type} [FloatOps F]

local notation "𝕄" => MT nD τ sig Unit (Elt F) ℕ (UR sig nD τ) ℕ

/-- A grid point's one coordinate is its number. -/
theorem coords_val (t : Fin cfg0.N) : ((cfg0.grid.coords t) 0).val = t.val := by
  rcases fin_N0 t with rfl | rfl | rfl | rfl | rfl | rfl | rfl | rfl <;> rfl

/-- The first point is the point numbered zero. -/
theorem isFirst_iff (t : Fin cfg0.N) : isFirst (cfg0.grid.coords t) ↔ t.val = 0 := by
  rcases fin_N0 t with rfl | rfl | rfl | rfl | rfl | rfl | rfl | rfl <;> decide

/-- The last point is the point numbered seven. -/
theorem isLast_iff (t : Fin cfg0.N) : k0_cond2 (cfg0.grid.coords t) = 1#1 ↔ t.val = 7 := by
  rcases fin_N0 t with rfl | rfl | rfl | rfl | rfl | rfl | rfl | rfl <;> decide

/-- The columns inside the array left from point `i` on. -/
theorem left_word : ∀ i : Fin 8, Scalar.subi (200000#32) (Scalar.muli (BitVec.ofNat 32 i.val) 25088#32) = BitVec.ofNat 32 (200000 - i.val * 25088) := by
  decide

/-- The mask at column `j` of point `i` says that the column lies inside the array. -/
theorem pay8_iff (i : grid0.Coords) (j : S1x25088.Idx) : k0_pay8 i j = 1#1 ↔ (i 0).val * 25088 + (j 1).val < 200000 := by
  have hj : (j 1).val < 25088 := (j 1).isLt
  have hi : (i 0).val < 8 := (i 0).isLt
  have : k0_pay8 i j = IntOp.cmpi .slt (BitVec.ofNat 32 (j 1).val) (Scalar.subi (200000#32) (Scalar.muli (BitVec.ofNat 32 (i 0).val) 25088#32)) := by
    unfold k0_pay8
    simp only [cmpi, broadcast]
    congr 1
    unfold iota
    simp only [List.foldl_cons, List.foldl_nil, Nat.zero_mul, Nat.zero_add]
  rw [this, left_word (i 0), WordCmp.cmpi_slt_ofNat (by omega) (by omega), WordCmp.ofBool_decide_eq_one_iff]
  omega

/-- A column inside the array is one the transfer moves. -/
theorem moved_of (t : Fin cfg0.N) (j : S96x25088.Idx) (h : t.val * 25088 + (j 1).val < 200000) :
    (cfg0.win 0).moved (cfg0.grid.coords t) j = true := by
  refine ((cfg0.win 0).moved_iff _ j).mpr fun a => ?_
  have h1 : (j 1).val < 25088 := (j 1).isLt
  have h0 : (j 0).val < 96 := (j 0).isLt
  have hx : (cfg0.win 0).xsize (cfg0.grid.coords t) (0 : Fin 2) = 96 ∧ (cfg0.win 0).xsize (cfg0.grid.coords t) (1 : Fin 2) = min 25088 (200000 - t.val * 25088) := by
    rcases fin_N0 t with rfl | rfl | rfl | rfl | rfl | rfl | rfl | rfl <;> exact ⟨by decide, by decide⟩
  match a with
  | ⟨0, _⟩ => exact lt_of_lt_of_eq h0 hx.1.symm
  | ⟨1, _⟩ => exact lt_of_lt_of_eq (lt_min h1 (show (j 1).val < _ by omega)) hx.2.symm

/-- The masked block depends on the moved part of the staging buffer alone. -/
theorem pay9_fill (t : Fin cfg0.N) (d d' : Vec F S96x25088 .f32) (g : ((cfg0.win 0).xblock (cfg0.grid.coords t)).Idx → Elt F .f32) :
    k0_pay9 (cfg0.grid.coords t) ((cfg0.win 0).fill (cfg0.grid.coords t) d g)
      = k0_pay9 (cfg0.grid.coords t) ((cfg0.win 0).fill (cfg0.grid.coords t) d' g) := by
  funext j
  unfold k0_pay9
  simp only [shapeCast_self]
  obtain ⟨a, b, rfl⟩ : ∃ a b, j = ix2 a b := ⟨j 0, j 1, (eq_ix2 j)⟩
  simp only [select, broadcastTo_1b_ab_apply]
  by_cases h : k0_pay8 (grid0.coords t) (ix2 (0 : Fin 1) b) = 1#1
  · rw [h]
    have hm : (cfg0.win 0).moved (cfg0.grid.coords t) (ix2 a b) = true := moved_of t (ix2 a b) (by
      have := (pay8_iff _ _).mp h
      rwa [show ((grid0.coords t) 0).val = t.val from coords_val t] at this)
    unfold Window.fill
    rw [dif_pos hm, dif_pos hm]
  · rw [show k0_pay8 (grid0.coords t) (ix2 (0 : Fin 1) b) = 0#1 from by
      generalize k0_pay8 (grid0.coords t) (ix2 (0 : Fin 1) b) = z at h ⊢; revert z; decide]
    rfl

end Cert.Proof.K

end
-- ==== Proof.Body.lean ====
/-
The kernel body run once, at any operands: what it reads and what it leaves in every buffer.
-/
module

public import proofs.«01_k».proof.Proof.State

@[expose] public section

set_option maxRecDepth 16384

noncomputable section

namespace Cert.Proof.K

open Cert.KernelIdeal Cert.KernelIdeal.Gen Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (i : grid0.Coords)
  (arg1 : Memref sig .tc .vmem S96x25088 .f32) (harg1 : arg1.IsWhole)
  (arg2 : Memref sig .tc .vmem S128x104 .f32) (harg2 : arg2.IsWhole)
  (arg3 : Memref sig .tc .vmem S256x136 .f32) (harg3 : arg3.IsWhole)
  (arg4 : Memref sig .tc .vmem S1x128 .f32) (harg4 : arg4.IsWhole)
  (arg5 : Memref sig .tc .vmem S1x1 .f32) (harg5 : arg5.IsWhole)
  (arg6 : Memref sig .tc .vmem S128x2 .f32) (harg6 : arg6.IsWhole)
  (arg7 : Memref sig .tc .vmem S1x2 .f32) (harg7 : arg7.IsWhole)
  (arg8 : Memref sig .tc .vmem S1x25088 .f32) (harg8 : arg8.IsWhole)
  (arg9 : Memref sig .tc .vmem S1x2 .f32) (harg9 : arg9.IsWhole)
  (arg10 : Memref sig .tc .vmem S1x2 .f32) (harg10 : arg10.IsWhole)
  (arg11 : Memref sig .tc .vmem S1x1 .i32) (harg11 : arg11.IsWhole)
  (arg12 : Memref sig .tc .vmem S104x25088 .f32) (harg12 : arg12.IsWhole)
  (arg13 : Memref sig .tc .vmem S136x25088 .f32) (harg13 : arg13.IsWhole)
  (arg14 : Memref sig .tc .vmem S1x128 .f32) (harg14 : arg14.IsWhole)
  (arg15 : Memref sig .tc .smem S1x1 .f32) (harg15 : arg15.IsWhole)
  (arg16 : Memref sig .tc .smem S1x1 .f32) (harg16 : arg16.IsWhole)

/-- What the scratch buffers may hold when a point begins: anything at the first point (the carried state then the
    initial one), else ones below the rows the point rewrites, and the carried state. -/
def Enter (st : St F) (X12 : Vec F S104x25088 .f32) (X13 : Vec F S136x25088 .f32) (X14 : Vec F S1x128 .f32)
    (X15 X16 : Vec F S1x1 .f32) : Prop :=
  (isFirst i ∧ st = St.init)
  ∨ (¬ isFirst i ∧ OnesFrom 96 X12 ∧ OnesFrom 128 X13 ∧ X14 = st.acc ∧ X15 = (fun _ => st.mx) ∧ X16 = (fun _ => st.sm))

set_option maxHeartbeats 4000000 in
/-- The first part: the scratch rows set at the first point, the two layers computed. -/
theorem part1_run (c : Dev nD) (st : St F) (x : Vec F S96x25088 .f32) (w : Vec F S128x104 .f32) (u : Vec F S256x136 .f32)
    (X12 : Vec F S104x25088 .f32) (X13 : Vec F S136x25088 .f32) (X14 : Vec F S1x128 .f32) (X15 X16 : Vec F S1x1 .f32)
    (hE : Enter i st X12 X13 X14 X15 X16)
    (K : (Σ' (arg0 : BitVec 32) (v7 : IVec S1x25088 1) (v31 : FVec F S128x25088 .f32), FVec F S128x25088 .f32) → sProp 𝕄) :
    iprop(owns (c : Thread nD τ) arg1 fullShare x ∗ owns (c : Thread nD τ) arg2 fullShare w ∗ owns (c : Thread nD τ) arg3 fullShare u
      ∗ owns (c : Thread nD τ) arg12 fullShare X12 ∗ owns (c : Thread nD τ) arg13 fullShare X13 ∗ owns (c : Thread nD τ) arg14 fullShare X14
      ∗ owns (c : Thread nD τ) arg15 fullShare X15 ∗ owns (c : Thread nD τ) arg16 fullShare X16
      ∗ (iprop(owns (c : Thread nD τ) arg1 fullShare x ∗ owns (c : Thread nD τ) arg2 fullShare w ∗ owns (c : Thread nD τ) arg3 fullShare u
          ∗ owns (c : Thread nD τ) arg12 fullShare (hAug i x) ∗ owns (c : Thread nD τ) arg13 fullShare (xAug i x w)
          ∗ owns (c : Thread nD τ) arg14 fullShare st.acc
          ∗ owns (c : Thread nD τ) arg15 fullShare (fun _ => st.mx) ∗ owns (c : Thread nD τ) arg16 fullShare (fun _ => st.sm))
          -∗ K ⟨BitVec.ofNat 32 (i 0).val, k0_pay8 i, tA i x w u, tB i x w u⟩))
    ⊢ wp frame (wpE (defs₀ (F := F)) Variants.none c none) Set.univ
        (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [k0_part1_eq_skeleton]
  unfold k0_part1_skel tA tB
  simp only [Prog.lift, smemLoad, smemLoadElt, Prog.bind_op, Prog.bind_ret]
  iintro ⟨H1, H2, H3, H12, H13, H14, H15, H16, Hk⟩
  rcases hE with ⟨hf, rfl⟩ | ⟨hf, h12, h13, rfl, rfl, rfl⟩
  · rw [dif_pos hf]
    iapply (own_load Variants.none none Set.univ) $$ H12; iintro H12
    iapply (own_store Variants.none none Set.univ harg12) $$ H12; iintro H12
    iapply (own_load Variants.none none Set.univ) $$ H13; iintro H13
    iapply (own_store Variants.none none Set.univ harg13) $$ H13; iintro H13
    iapply (own_load_all Variants.none none Set.univ off0) $$ H14; iintro H14
    iapply (own_store_all Variants.none none Set.univ harg14 off0) $$ H14; iintro H14
    iapply (own_load Variants.none none Set.univ) $$ H15; iintro H15
    iapply (own_store_all Variants.none none Set.univ harg15 off0) $$ H15; iintro H15
    iapply (own_load Variants.none none Set.univ) $$ H16; iintro H16
    iapply (own_store_all Variants.none none Set.univ harg16 off0) $$ H16; iintro H16
    have h12 := onesFrom_put_end (n := 96) X12 k0_pay5 pay5_one (le_refl _) (le_refl _)
    have h13 := onesFrom_put_end (n := 128) X13 k0_pay6 pay6_one (le_refl _) (le_refl _)
    iapply (own_load_all Variants.none none Set.univ off0) $$ H1; iintro H1
    iapply (own_load Variants.none none Set.univ) $$ H12; iintro H12
    iapply (own_store Variants.none none Set.univ harg12) $$ H12; iintro H12
    rw [h12.put_eq (k0_pay9 i x) (le_refl _), ← hAug]
    iapply (own_load_all Variants.none none Set.univ off0) $$ H2; iintro H2
    iapply (own_load_all Variants.none none Set.univ off0) $$ H12; iintro H12
    iapply (own_load Variants.none none Set.univ) $$ H13; iintro H13
    iapply (own_store Variants.none none Set.univ harg13) $$ H13; iintro H13
    rw [h13.put_eq (k0_pay10 w (hAug i x)) (le_refl _), ← xAug]
    iapply (own_load_all Variants.none none Set.univ off0) $$ H3; iintro H3
    iapply (own_load_all Variants.none none Set.univ off0) $$ H13; iintro H13
    iapply (le_wp_ret _ _ _ _ _)
    iapply Hk
    iframe
    isplitl [H14]; · iexact H14
    isplitl [H15]; · iexact H15
    iexact H16
  · rw [dif_neg hf]
    iapply (own_load_all Variants.none none Set.univ off0) $$ H1; iintro H1
    iapply (own_load Variants.none none Set.univ) $$ H12; iintro H12
    iapply (own_store Variants.none none Set.univ harg12) $$ H12; iintro H12
    rw [h12.put_eq (k0_pay9 i x) (le_refl _), ← hAug]
    iapply (own_load_all Variants.none none Set.univ off0) $$ H2; iintro H2
    iapply (own_load_all Variants.none none Set.univ off0) $$ H12; iintro H12
    iapply (own_load Variants.none none Set.univ) $$ H13; iintro H13
    iapply (own_store Variants.none none Set.univ harg13) $$ H13; iintro H13
    rw [h13.put_eq (k0_pay10 w (hAug i x)) (le_refl _), ← xAug]
    iapply (own_load_all Variants.none none Set.univ off0) $$ H3; iintro H3
    iapply (own_load_all Variants.none none Set.univ off0) $$ H13; iintro H13
    iapply (le_wp_ret _ _ _ _ _)
    iapply Hk
    iframe

/-- The rows the second part reads back are the rectified first layer. -/
theorem ld_xAug (x : Vec F S96x25088 .f32) (w : Vec F S128x104 .f32) :
    View.ld (xAug i x w) (Rect.unit (s := S136x25088) ![0, 0] S128x25088.size inb_S136x25088_S128x25088_0_0) = k0_pay10 w (hAug i x) :=
  VecWindow.window_put_same _ _ _ _ _

set_option maxHeartbeats 4000000 in
/-- The second part: the scores stored, the running sum updated. -/
theorem part2_run (c : Dev nD) (st : St F) (x : Vec F S96x25088 .f32) (w : Vec F S128x104 .f32) (u : Vec F S256x136 .f32)
    (a : Vec F S1x128 .f32) (b : Vec F S1x1 .f32) (X8 : Vec F S1x25088 .f32)
    (K : (Σ' (v54 : F .f32) (v59 : FVec F S1x25088 .f32) (v61 : F .f32), Vec F S128x25088 .f32) → sProp 𝕄) :
    iprop(owns (c : Thread nD τ) arg4 fullShare a ∗ owns (c : Thread nD τ) arg5 fullShare b ∗ owns (c : Thread nD τ) arg8 fullShare X8 ∗ owns (c : Thread nD τ) arg13 fullShare (xAug i x w) ∗ owns (c : Thread nD τ) arg15 fullShare (fun _ => st.mx) ∗ owns (c : Thread nD τ) arg16 fullShare (fun _ => st.sm)
      ∗ (iprop(owns (c : Thread nD τ) arg4 fullShare a ∗ owns (c : Thread nD τ) arg5 fullShare b ∗ owns (c : Thread nD τ) arg8 fullShare (score i x w u a b) ∗ owns (c : Thread nD τ) arg13 fullShare (xAug i x w) ∗ owns (c : Thread nD τ) arg15 fullShare (fun _ => st.mx)
          ∗ owns (c : Thread nD τ) arg16 fullShare (fun _ => (St.next i x w u a b st).sm))
          -∗ K ⟨k0_pay15 (k0_pay8 i) (tA i x w u) (tB i x w u) a b st.mx, k0_pay16 (k0_pay8 i) (tA i x w u) (tB i x w u) a b st.mx,
              k0_pay17 (k0_pay8 i) (tA i x w u) (tB i x w u) a b st.mx, k0_pay10 w (hAug i x)⟩))
    ⊢ wp frame (wpE (defs₀ (F := F)) Variants.none c none) Set.univ
        (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay8 i) (tA i x w u) (tB i x w u)) K := by
  rw [k0_part2_eq_skeleton]
  unfold k0_part2_skel
  simp only [Prog.lift, smemLoad, smemLoadElt, Prog.bind_op, Prog.bind_ret]
  iintro ⟨H4, H5, H8, H13, H15, H16, Hk⟩
  iapply (own_load_all Variants.none none Set.univ off0) $$ H4; iintro H4
  iapply (own_load_all Variants.none none Set.univ off0) $$ H5; iintro H5
  iapply (own_load_all Variants.none none Set.univ off0) $$ H8; iintro H8
  iapply (own_store_all Variants.none none Set.univ harg8 off0) $$ H8; iintro H8
  iapply (own_load Variants.none none Set.univ) $$ H15; iintro H15
  iapply (own_load Variants.none none Set.univ) $$ H16; iintro H16
  iapply (own_load Variants.none none Set.univ) $$ H16; iintro H16
  iapply (own_store_all Variants.none none Set.univ harg16 off0) $$ H16; iintro H16
  iapply (own_load Variants.none none Set.univ) $$ H13; iintro H13
  rw [ld_xAug]
  iapply (le_wp_ret _ _ _ _ _)
  iapply Hk
  isplitl [H4]; · iexact H4
  isplitl [H5]; · iexact H5
  isplitl [H8]; · iexact H8
  isplitl [H13]; · iexact H13
  isplitl [H15]; · iexact H15
  iexact H16

/-- What an output that only the last point writes holds after a point. -/
abbrev lastOr {α : Type} (new old : α) : α := if k0_cond2 i = 1#1 then new else old

set_option maxHeartbeats 4000000 in
/-- The whole body. -/
theorem body_run (c : Dev nD) (st : St F) (x : Vec F S96x25088 .f32) (w : Vec F S128x104 .f32) (u : Vec F S256x136 .f32)
    (a : Vec F S1x128 .f32) (b : Vec F S1x1 .f32) (p : Vec F S128x2 .f32) (q : Vec F S1x2 .f32)
    (X8 : Vec F S1x25088 .f32) (X9 X10 : Vec F S1x2 .f32) (X11 : Vec F S1x1 .i32)
    (X12 : Vec F S104x25088 .f32) (X13 : Vec F S136x25088 .f32) (X14 : Vec F S1x128 .f32) (X15 X16 : Vec F S1x1 .f32)
    (hE : Enter i st X12 X13 X14 X15 X16) (K : PUnit → sProp 𝕄) :
    iprop(owns (c : Thread nD τ) arg1 fullShare x ∗ owns (c : Thread nD τ) arg2 fullShare w ∗ owns (c : Thread nD τ) arg3 fullShare u ∗ owns (c : Thread nD τ) arg4 fullShare a ∗ owns (c : Thread nD τ) arg5 fullShare b ∗ owns (c : Thread nD τ) arg6 fullShare p ∗ owns (c : Thread nD τ) arg7 fullShare q
      ∗ owns (c : Thread nD τ) arg8 fullShare X8 ∗ owns (c : Thread nD τ) arg9 fullShare X9 ∗ owns (c : Thread nD τ) arg10 fullShare X10 ∗ owns (c : Thread nD τ) arg11 fullShare X11
      ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16
      ∗ (iprop(owns (c : Thread nD τ) arg1 fullShare x ∗ owns (c : Thread nD τ) arg2 fullShare w ∗ owns (c : Thread nD τ) arg3 fullShare u ∗ owns (c : Thread nD τ) arg4 fullShare a ∗ owns (c : Thread nD τ) arg5 fullShare b ∗ owns (c : Thread nD τ) arg6 fullShare p ∗ owns (c : Thread nD τ) arg7 fullShare q
          ∗ owns (c : Thread nD τ) arg8 fullShare (score i x w u a b)
          ∗ owns (c : Thread nD τ) arg9 fullShare (lastOr i (k0_pay2 (St.next i x w u a b st).acc (St.next i x w u a b st).sm p q) X9)
          ∗ owns (c : Thread nD τ) arg10 fullShare (lastOr i (k0_pay3 (St.next i x w u a b st).acc (St.next i x w u a b st).sm p q) X10)
          ∗ owns (c : Thread nD τ) arg11 fullShare (lastOr i (k0_pay4 (St.next i x w u a b st).acc (St.next i x w u a b st).sm p q) X11)
          ∗ owns (c : Thread nD τ) arg12 fullShare (hAug i x) ∗ owns (c : Thread nD τ) arg13 fullShare (xAug i x w) ∗ owns (c : Thread nD τ) arg14 fullShare (St.next i x w u a b st).acc
          ∗ owns (c : Thread nD τ) arg15 fullShare (fun _ => (St.next i x w u a b st).mx) ∗ owns (c : Thread nD τ) arg16 fullShare (fun _ => (St.next i x w u a b st).sm)) -∗ K ⟨⟩))
    ⊢ wp frame (wpE (defs₀ (F := F)) Variants.none c none) Set.univ
        (cc0__clam_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0__clam_kernel_eq_skeleton]
  unfold cc0__clam_kernel_skel
  iintro ⟨H1, H2, H3, H4, H5, H6, H7, H8, H9, H10, H11, H12, H13, H14, H15, H16, Hk⟩
  rw [wp_bind]
  iapply (part1_run (i := i) (hE := hE))
  iframe
  iintro ⟨H1, H2, H3, H12, H13, H14, H15, H16⟩
  simp only
  rw [wp_bind]
  iapply (part2_run (i := i) (st := st))
  iframe
  iintro ⟨H4, H5, H8, H13, H15, H16⟩
  simp only [Prog.lift, smemLoad, smemLoadElt, Prog.bind_op, Prog.bind_ret]
  iapply (own_load_all Variants.none none Set.univ off0) $$ H14; iintro H14
  iapply (own_load_all Variants.none none Set.univ off0) $$ H14; iintro H14
  iapply (own_store_all Variants.none none Set.univ harg14 off0) $$ H14; iintro H14
  iapply (own_load Variants.none none Set.univ) $$ H15; iintro H15
  iapply (own_store_all Variants.none none Set.univ harg15 off0) $$ H15; iintro H15
  by_cases hl : k0_cond2 i = 1#1
  · simp only [lastOr, if_pos hl]
    rw [dif_pos hl]
    iapply (own_load_all Variants.none none Set.univ off0) $$ H14; iintro H14
    iapply (own_load Variants.none none Set.univ) $$ H16; iintro H16
    iapply (own_load_all Variants.none none Set.univ off0) $$ H6; iintro H6
    iapply (own_load_all Variants.none none Set.univ off0) $$ H7; iintro H7
    iapply (own_load_all Variants.none none Set.univ off0) $$ H9; iintro H9
    iapply (own_store_all Variants.none none Set.univ harg9 off0) $$ H9; iintro H9
    iapply (own_load_all Variants.none none Set.univ off0) $$ H10; iintro H10
    iapply (own_store_all Variants.none none Set.univ harg10 off0) $$ H10; iintro H10
    iapply (own_load_all Variants.none none Set.univ off0) $$ H11; iintro H11
    iapply (own_store_all Variants.none none Set.univ harg11 off0) $$ H11; iintro H11
    iapply (le_wp_ret _ _ _ _ _)
    iapply Hk
    iframe
    isplitl [H9]; · iexact H9
    isplitl [H10]; · iexact H10
    isplitl [H11]; · iexact H11
    isplitl [H14]; · iexact H14
    iexact H15
  · simp only [lastOr, if_neg hl]
    rw [dif_neg hl]
    iapply (le_wp_ret _ _ _ _ _)
    iapply Hk
    iframe
    isplitl [H14]; · iexact H14
    iexact H15

end Cert.Proof.K

end
-- ==== Proof.Run.lean ====
/-
The run of the region: the contents of every buffer point by point, the body's obligation, and what a run ends with.
-/
module

public import proofs.«01_k».proof.Proof.Mask
public import proofs.«01_k».proof.Proof.Body

@[expose] public section

set_option maxRecDepth 16384

noncomputable section

namespace Cert.Proof.K

open Cert.KernelIdeal Cert.KernelIdeal.Gen Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The instance block at point `t`, with zeros for the columns past the array's end. -/
def hx (c : Dev nD) (t : Fin cfg0.N) : Vec F S96x25088 .f32 :=
  (cfg0.win 0).fill (cfg0.grid.coords t) (fun _ => Scalar.ofBits .f32 0x00000000#32) (iblk m c 0 t)
/-- The first layer's weights, with the bias column. -/
abbrev wfc (c : Dev nD) (t : Fin cfg0.N) : Vec F S128x104 .f32 := iblk m c 1 t
/-- The two gates' weights, with the bias column. -/
abbrev wab (c : Dev nD) (t : Fin cfg0.N) : Vec F S256x136 .f32 := iblk m c 2 t
/-- The attention weights. -/
abbrev wat (c : Dev nD) (t : Fin cfg0.N) : Vec F S1x128 .f32 := iblk m c 3 t
/-- The attention bias. -/
abbrev bat (c : Dev nD) (t : Fin cfg0.N) : Vec F S1x1 .f32 := iblk m c 4 t
/-- The classifier's weights. -/
abbrev wcl (c : Dev nD) (t : Fin cfg0.N) : Vec F S128x2 .f32 := iblk m c 5 t
/-- The classifier's bias. -/
abbrev bcl (c : Dev nD) (t : Fin cfg0.N) : Vec F S1x2 .f32 := iblk m c 6 t

/-- The carried state before point `n`. -/
def stAt (c : Dev nD) : Nat → St F
  | 0 => St.init
  | n + 1 => if h : n < cfg0.N then
      St.next (cfg0.grid.coords ⟨n, h⟩) (hx m c ⟨n, h⟩) (wfc m c ⟨n, h⟩) (wab m c ⟨n, h⟩) (wat m c ⟨n, h⟩) (bat m c ⟨n, h⟩) (stAt c n)
    else stAt c n

theorem stAt_succ (c : Dev nD) (t : Fin cfg0.N) : stAt m c (t.val + 1)
    = St.next (cfg0.grid.coords t) (hx m c t) (wfc m c t) (wab m c t) (wat m c t) (bat m c t) (stAt m c t.val) :=
  dif_pos t.isLt

/-- The attention scores point `t` computes. -/
def scoreAt (c : Dev nD) (t : Fin cfg0.N) : Vec F S1x25088 .f32 :=
  score (cfg0.grid.coords t) (hx m c t) (wfc m c t) (wab m c t) (wat m c t) (bat m c t)

/-- What the scratch buffers hold before point `n`. -/
def Held (c : Dev nD) (n : Nat) (X12 : Vec F S104x25088 .f32) (X13 : Vec F S136x25088 .f32) (X14 : Vec F S1x128 .f32)
    (X15 X16 : Vec F S1x1 .f32) : Prop :=
  n ≠ 0 → OnesFrom 96 X12 ∧ OnesFrom 128 X13 ∧ X14 = (stAt m c n).acc ∧ X15 = (fun _ => (stAt m c n).mx) ∧ X16 = (fun _ => (stAt m c n).sm)

/-- The five scratch buffers before point `n`, and the generator register. -/
def Inv (c : Dev nD) (n : Nat) : sProp 𝕄 :=
  iprop(∃ X12, ∃ X13, ∃ X14, ∃ X15, ∃ X16, ⌜Held m c n X12 X13 X14 X15 X16⌝
    ∗ owns (c : Thread nD τ) (Memref.whole cc0_scratch0) fullShare X12 ∗ owns (c : Thread nD τ) (Memref.whole cc0_scratch1) fullShare X13
    ∗ owns (c : Thread nD τ) (Memref.whole cc0_scratch2) fullShare X14 ∗ owns (c : Thread nD τ) (Memref.whole cc0_scratch3) fullShare X15
    ∗ owns (c : Thread nD τ) (Memref.whole cc0_scratch4) fullShare X16 ∗ ∃ r, prngReg c r)

/-- The proof data of the one pipeline on device `c`: the arrays as the region finds them, what each staging buffer holds
    after the body at each point, and the scratch buffers' invariant. -/
def dats (_ : Fin 1) (c : Dev nD) : Dat τ (Elt F) Unit ℕ (UR sig nD τ) ℕ cfg0 c where
  A w := V m c (Pipeline.arrRef spec0 w)
  after w t := match w with
    | ⟨0, _⟩ => hx m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => scoreAt m c t
    | ⟨8, _⟩ => k0_pay2 (stAt m c (t.val + 1)).acc (stAt m c (t.val + 1)).sm (wcl m c t) (bcl m c t)
    | ⟨9, _⟩ => k0_pay3 (stAt m c (t.val + 1)).acc (stAt m c (t.val + 1)).sm (wcl m c t) (bcl m c t)
    | ⟨10, _⟩ => k0_pay4 (stAt m c (t.val + 1)).acc (stAt m c (t.val + 1)).sm (wcl m c t) (bcl m c t)
    | ⟨_ + 11, h⟩ => absurd h (Nat.not_lt.2 (Nat.le_add_left _ _))
  Φ t := Inv m c t.val
  q _ := fullShare
  owed _ := 0

theorem before_0 (c : Dev nD) (t : Fin cfg0.N) (d) :
    (dats m 0 c).before (0 : Fin 11) t d = (cfg0.win 0).fill (cfg0.grid.coords t) d (iblk m c 0 t) := by
  unfold Dat.before; rw [if_pos (fetch0_0 t)]; rfl

/-- An input window's staging buffer holds the window's block at every point. -/
theorem before_1 (c : Dev nD) (t : Fin cfg0.N) (d) : (dats m 0 c).before (1 : Fin 11) t d = iblk m c 1 t :=
  (((dats m 0 c).before_in_eq_fetched 1 rfl (fun _ => rfl) (fun _ _ _ => rfl) (fun t => rfl)) t d).trans rfl
theorem before_2 (c : Dev nD) (t : Fin cfg0.N) (d) : (dats m 0 c).before (2 : Fin 11) t d = iblk m c 2 t :=
  (((dats m 0 c).before_in_eq_fetched 2 rfl (fun _ => rfl) (fun _ _ _ => rfl) (fun t => rfl)) t d).trans rfl
theorem before_3 (c : Dev nD) (t : Fin cfg0.N) (d) : (dats m 0 c).before (3 : Fin 11) t d = iblk m c 3 t :=
  (((dats m 0 c).before_in_eq_fetched 3 rfl (fun _ => rfl) (fun _ _ _ => rfl) (fun t => rfl)) t d).trans rfl
theorem before_4 (c : Dev nD) (t : Fin cfg0.N) (d) : (dats m 0 c).before (4 : Fin 11) t d = iblk m c 4 t :=
  (((dats m 0 c).before_in_eq_fetched 4 rfl (fun _ => rfl) (fun _ _ _ => rfl) (fun t => rfl)) t d).trans rfl
theorem before_5 (c : Dev nD) (t : Fin cfg0.N) (d) : (dats m 0 c).before (5 : Fin 11) t d = iblk m c 5 t :=
  (((dats m 0 c).before_in_eq_fetched 5 rfl (fun _ => rfl) (fun _ _ _ => rfl) (fun t => rfl)) t d).trans rfl
theorem before_6 (c : Dev nD) (t : Fin cfg0.N) (d) : (dats m 0 c).before (6 : Fin 11) t d = iblk m c 6 t :=
  (((dats m 0 c).before_in_eq_fetched 6 rfl (fun _ => rfl) (fun _ _ _ => rfl) (fun t => rfl)) t d).trans rfl

theorem hAug_congr (i : grid0.Coords) {x x' : Vec F S96x25088 .f32} (h : k0_pay9 i x = k0_pay9 i x') : hAug i x = hAug i x' := by
  unfold hAug; rw [h]

/-- What the staging buffer holds past the array's end reaches neither the masked block … -/
theorem hAug_fill (c : Dev nD) (t : Fin cfg0.N) (d) :
    hAug (cfg0.grid.coords t) ((cfg0.win 0).fill (cfg0.grid.coords t) d (iblk m c 0 t)) = hAug (cfg0.grid.coords t) (hx m c t) :=
  hAug_congr (cfg0.grid.coords t) (pay9_fill t d (fun _ => Scalar.ofBits .f32 0x00000000#32) (iblk m c 0 t))

/-- … nor the scores, which read the block through the mask … -/
theorem score_congr (i : grid0.Coords) {x x' : Vec F S96x25088 .f32} (h : hAug i x = hAug i x') (w u a b) :
    score i x w u a b = score i x' w u a b := by
  unfold score tA tB xAug; rw [h]

/-- … nor the carried state. -/
theorem next_congr (i : grid0.Coords) {x x' : Vec F S96x25088 .f32} (h : hAug i x = hAug i x') (w u a b st) :
    St.next i x w u a b st = St.next i x' w u a b st := by
  unfold St.next tA tB xAug; rw [h]

/-- The invariant before a point is what the body may start from. -/
theorem enter_of {c : Dev nD} {t : Fin cfg0.N} {X12 X13 X14 X15 X16} (h : Held m c t.val X12 X13 X14 X15 X16) :
    Enter (cfg0.grid.coords t) (stAt m c t.val) X12 X13 X14 X15 X16 := by
  by_cases h0 : t.val = 0
  · exact .inl ⟨(isFirst_iff t).mpr h0, by rw [h0]; rfl⟩
  · exact .inr ⟨fun hf => h0 ((isFirst_iff t).mp hf), h h0⟩

/-- What the body leaves in the scratch buffers is the invariant at the next point. -/
theorem held_next (c : Dev nD) (t : Fin cfg0.N) (x : Vec F S96x25088 .f32) (w : Vec F S128x104 .f32) {st : St F}
    (h : st = stAt m c (t.val + 1)) (i : grid0.Coords) :
    Held m c (t.val + 1) (hAug i x) (xAug i x w) st.acc (fun _ => st.mx) (fun _ => st.sm) := by
  subst h
  exact fun _ => ⟨onesFrom_put _, onesFrom_put _, rfl, rfl, rfl⟩

/-- The outputs only the last point writes are idle at every other point. -/
theorem idle_last (t : Fin cfg0.N) (hl : t.val = 7) : (!(k0_cond2 (cfg0.grid.coords t) == 1#1)) = false := by
  rw [(isLast_iff t).mpr hl]; rfl
theorem idle_not_last (t : Fin cfg0.N) (hl : ¬ t.val = 7) : (!(k0_cond2 (cfg0.grid.coords t) == 1#1)) = true := by
  rw [Bool.not_eq_true', beq_eq_false_iff_ne]; exact fun h => hl ((isLast_iff t).mp h)
theorem mod_last (t : Fin cfg0.N) (h : t.val % 8 = 7) : t.val = 7 := by
  have : t.val < 8 := lt_of_lt_of_eq t.isLt N_0
  omega

set_option maxHeartbeats 4000000 in
/-- The body meets its obligation at every point. -/
theorem body_obligation (c : Dev nD) : BodyObligationLoose (dats m 0 c) (defs₀ (F := F)) Variants.none () Set.univ := fun t => by
  rw [bigSep_W0, bigSep_W0]
  simp only
  rw [show (dats m 0 c).owesAt () t.succ = (dats m 0 c).owesAt () t.castSucc from rfl,
    show (dats m 0 c).Φ t.castSucc = Inv m c t.val from rfl, show (dats m 0 c).Φ t.succ = Inv m c (t.val + 1) from rfl]
  unfold Inv
  iintro ⟨⟨%X12, %X13, %X14, %X15, %X16, %hH, HS12, HS13, HS14, HS15, HS16, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 m c t d0, before_1 m c t d1, before_2 m c t d2, before_3 m c t d3, before_4 m c t d4, before_5 m c t d5, before_6 m c t d6]
  iapply (body_run (i := cfg0.grid.coords t) (hE := enter_of m hH) (x := (cfg0.win 0).fill (cfg0.grid.coords t) d0 (iblk m c 0 t))
    (w := iblk m c 1 t) (u := iblk m c 2 t) (a := iblk m c 3 t) (b := iblk m c 4 t) (p := iblk m c 5 t) (q := iblk m c 6 t)
    (X8 := (dats m 0 c).before (7 : Fin 11) t d7) (X9 := (dats m 0 c).before (8 : Fin 11) t d8)
    (X10 := (dats m 0 c).before (9 : Fin 11) t d9) (X11 := (dats m 0 c).before (10 : Fin 11) t d10))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS12]; · iexact HS12
  isplitl [HS13]; · iexact HS13
  isplitl [HS14]; · iexact HS14
  isplitl [HS15]; · iexact HS15
  isplitl [HS16]; · iexact HS16
  have hn := (next_congr (F := F) (cfg0.grid.coords t) (hAug_fill m c t d0) (iblk m c 1 t) (iblk m c 2 t) (iblk m c 3 t) (iblk m c 4 t)
    (stAt m c t.val)).trans (stAt_succ m c t).symm
  have hs : score (cfg0.grid.coords t) ((cfg0.win 0).fill (cfg0.grid.coords t) d0 (iblk m c 0 t)) (iblk m c 1 t) (iblk m c 2 t)
      (iblk m c 3 t) (iblk m c 4 t) = scoreAt m c t := score_congr (F := F) _ (hAug_fill m c t d0) _ _ _ _
  rw [hn, hs]
  iintro ⟨H0, H1, H2, H3, H4, H5, H6, H7, H8, H9, H10, HS12, HS13, HS14, HS15, HS16⟩
  isplitl [HS12 HS13 HS14 HS15 HS16 Hr]
  · iexists hAug (cfg0.grid.coords t) ((cfg0.win 0).fill (cfg0.grid.coords t) d0 (iblk m c 0 t))
    iexists xAug (cfg0.grid.coords t) ((cfg0.win 0).fill (cfg0.grid.coords t) d0 (iblk m c 0 t)) (iblk m c 1 t)
    iexists (stAt m c (t.val + 1)).acc
    iexists (fun _ => (stAt m c (t.val + 1)).mx)
    iexists (fun _ => (stAt m c (t.val + 1)).sm)
    isplitr
    · ipureintro
      exact held_next m c t ((cfg0.win 0).fill (cfg0.grid.coords t) d0 (iblk m c 0 t)) (iblk m c 1 t) rfl (cfg0.grid.coords t)
    isplitl [HS12]; · iexact HS12
    isplitl [HS13]; · iexact HS13
    isplitl [HS14]; · iexact HS14
    isplitl [HS15]; · iexact HS15
    isplitl [HS16]; · iexact HS16
    iexact Hr
  isplitl [Ho]; · iexact Ho
  isplitl [H0]
  · iexists d0
    rw [show (cfg0.win 0).cut (cfg0.grid.coords t) ((dats m 0 c).after 0 t) = iblk m c 0 t from (cfg0.win 0).cut_fill _ _ _]
    iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases hl : t.val = 7
  · have hk : k0_cond2 (cfg0.grid.coords t) = 1#1 := (isLast_iff t).mpr hl
    have h8 : idle0 8 (grid0.coords t) = false := idle_last t hl
    rw [h8]
    simp only [lastOr, if_pos hk]
    isplitl [H8]; · iexact H8
    isplitl [H9]; · iexact H9
    iexact H10
  · have hk : ¬ k0_cond2 (cfg0.grid.coords t) = 1#1 := fun h => hl ((isLast_iff t).mp h)
    have h8 : idle0 8 (grid0.coords t) = true := idle_not_last t hl
    have f8 : (win0 8).flush t = false := Bool.eq_false_iff.mpr fun h => hl (mod_last t ((flush0_8 t).mp h))
    have f9 : (win0 9).flush t = false := Bool.eq_false_iff.mpr fun h => hl (mod_last t ((flush0_9 t).mp h))
    have f10 : (win0 10).flush t = false := Bool.eq_false_iff.mpr fun h => hl (mod_last t ((flush0_10 t).mp h))
    rw [h8, f8, f9, f10]
    simp only [lastOr, if_neg hk]
    isplitl [H8]; · iexists d8; iexact H8
    isplitl [H9]; · iexists d9; iexact H9
    iexists d10; iexact H10

/-- The region's scratch buffers and generator register are the invariant at the first point … -/
theorem enter_region (c : Dev nD) : Pipeline.ΦA cfg0.spec c ⊢ (dats m 0 c).Φ 0 := by
  rw [show (dats m 0 c).Φ 0 = Inv m c 0 from rfl]
  unfold Pipeline.ΦA Inv
  rw [show cfg0.spec = spec0 from rfl, scopedRest0_eq]
  simp only [owns_whole]
  iintro ⟨⟨⟨%f0, H0⟩, ⟨%f1, H1⟩, ⟨%f2, H2⟩, ⟨%f3, H3⟩, ⟨%f4, H4⟩⟩, Hr⟩
  iexists f0; iexists f1; iexists f2; iexists f3; iexists f4
  isplitr; · ipureintro; exact fun h => absurd rfl h
  isplitl [H0]; · iexact H0
  isplitl [H1]; · iexact H1
  isplitl [H2]; · iexact H2
  isplitl [H3]; · iexact H3
  isplitl [H4]; · iexact H4
  iexact Hr

/-- … and the invariant after the last point gives them back. -/
theorem leave_region (c : Dev nD) : (dats m 0 c).Φ (Fin.last cfg0.N) ⊢ Pipeline.ΦA cfg0.spec c := by
  rw [show (dats m 0 c).Φ (Fin.last cfg0.N) = Inv m c cfg0.N from rfl]
  unfold Pipeline.ΦA Inv
  rw [show cfg0.spec = spec0 from rfl, scopedRest0_eq]
  simp only [owns_whole]
  iintro ⟨%f0, %f1, %f2, %f3, %f4, -, H0, H1, H2, H3, H4, Hr⟩
  isplitl [H0 H1 H2 H3 H4]
  · isplitl [H0]; · iexists f0; iexact H0
    isplitl [H1]; · iexists f1; iexact H1
    isplitl [H2]; · iexists f2; iexact H2
    isplitl [H3]; · iexists f3; iexact H3
    iexists f4; iexact H4
  iexact Hr

set_option backward.isDefEq.respectTransparency.types false in
/-- Every run ends with each array of the pipeline as the points leave it, every other buffer as the host program leaves
    it, and every semaphore at zero. -/
theorem run (g : Dev nD → PrngReg) :
    θ_run (defs (F := F)) (onTc (main (F := F))) ⟨m, fun _ => 0, g⟩ (fun r =>
      Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m g main
    (fun c => body_obligation m c) (fun c => (dats m 0 c).share_full fun _ => rfl) (fun _ _ => rfl) (V0 m) [hostOps1]
    post_sub post_fresh post_keeps (hmain m Variants.none) (fun _ _ => rfl) (enter_region m) (leave_region m)
    (Q' := _) (hQ' := fun _ h => h)

end Cert.Proof.K

end
-- ==== Proof.Frames.lean ====
/-
The frames: every program terminates without fault, leaves its arguments unchanged and every semaphore at zero.  The
kernel and its reading over the extended reals are one program at two scalar types, so one run serves both.
-/
module

public import proofs.«01_k».proof.Defs
public import proofs.«01_k».proof.Proof.Run
public import proofs.«01_k».proof.Proof.Gen.Kernel
public import proofs.«01_k».proof.Proof.Gen.ReferenceIdeal.Run

@[expose] public section

set_option maxRecDepth 16384

noncomputable section

namespace Cert.Proof

open Idealize.ShloMosaic Idealize.SL.Sem

variable {F : FTy → Type} [FloatOps F]

/-- The kernel's frame, at any scalar type. -/
theorem kernel_frame (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0) :=
  (θ_run _ _ _).mono (fun r h => ⟨fun c => K.args_of m (fun _ _ => rfl) h.1 c, h.2⟩) (K.run m g)

attribute [local instance] Cert.KernelIdeal.Gen.facts Cert.Kernel.Gen.facts

set_option maxHeartbeats 2000000 in
/-- The two printed kernels have the same body … -/
theorem defs₀_same : (Cert.KernelIdeal.defs₀ (F := Bits)) = (Cert.Kernel.defs₀ (F := Bits)) := by
  funext p ℓ x
  cases p with
  | tc =>
    match ℓ, x with
    | ⟨0, _⟩, (t, s) =>
       show Cert.KernelIdeal.cc0__clam_kernel (F := Bits) _ _ _ _ _ _ _ _ _ _ _ _ _ _ _ _ _ _ _ _ _ _ _ _ _ _ _ _ _ _ _ _ _ = Cert.Kernel.cc0__clam_kernel (F := Bits) _ _ _ _ _ _ _ _ _ _ _ _ _ _ _ _ _ _ _ _ _ _ _ _ _ _ _ _ _ _ _ _ _
       rfl
  | _ => rfl

set_option maxHeartbeats 2000000 in
/-- … the same host program … -/
theorem main_same : (Cert.KernelIdeal.main (F := Bits)) = (Cert.Kernel.main (F := Bits)) := by
  funext d
  unfold Cert.KernelIdeal.main Cert.Kernel.main Cert.KernelIdeal.fn_run.body Cert.Kernel.fn_run.body
  rfl

set_option maxHeartbeats 2000000 in
/-- … and the same functions. -/
theorem defs_same : (Cert.KernelIdeal.defs (F := Bits)) = (Cert.Kernel.defs (F := Bits)) := by
  unfold Cert.KernelIdeal.defs Cert.Kernel.defs
  exact congrArg (Pipeline.defs (Cert.Kernel.pcfgs (F := Bits))) defs₀_same

set_option maxHeartbeats 2000000 in
/-- The printed kernel's frame. -/
theorem frame_Kernel : Cert.quiescent_Kernel (hKernel := Cert.Kernel.Gen.facts) := fun m g _ => by
  have h := kernel_frame (F := Bits) m g
  rw [main_same, defs_same] at h
  exact h

/-- The frame of the kernel over the extended reals. -/
theorem frame_KernelIdeal : Cert.quiescent_KernelIdeal (hKernelIdeal := Cert.KernelIdeal.Gen.facts) :=
  fun m g _ => kernel_frame (F := Ideal) m g

/-- The reference's frame. -/
theorem frame_ReferenceIdeal : Cert.quiescent_ReferenceIdeal (hReferenceIdeal := Cert.ReferenceIdeal.Gen.facts) :=
  fun m g _ => (θ_run _ _ _).mono (fun r h => ⟨fun c => (h c).2.2.2.2, funext fun s => by
    match s with
    | (_, .reg k) => exact k.elim0
    | (_, .dma k) => exact k.elim0⟩) (Cert.ReferenceIdeal.Value.run m g)

end Cert.Proof

end
-- ==== Proof.HostVal.lean ====
/-
What the host program hands the region, in terms of the arguments.
-/
module

public import proofs.«01_k».proof.Proof.Run
public import Idealize.ShloMosaic.Lib.StableHlo.Run

@[expose] public section

set_option maxRecDepth 16384

noncomputable section

namespace Cert.Proof.K

open Cert.KernelIdeal Cert.KernelIdeal.Gen Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (c : Dev nD)

/-- Three pieces laid side by side are equal where the pieces are. -/
theorem cat3_congr {α : Type} {t s₁ s₂ s₃ : Shape} {a : Fin t.rank} {x x' : s₁.Idx → α} {y y' : s₂.Idx → α} {z z' : s₃.Idx → α}
    (hx : x = x') (hy : y = y') (hz : z = z') (h : Shape.Concatenates [s₁, s₂, s₃] t a) :
    concatenate t a [⟨s₁, x⟩, ⟨s₂, y⟩, ⟨s₃, z⟩] h = concatenate t a [⟨s₁, x'⟩, ⟨s₂, y'⟩, ⟨s₃, z'⟩] h := by
  subst hx hy hz; rfl

/-- Two pieces laid end to end are equal where the pieces are. -/
theorem cat2_congr {α : Type} {t s₁ s₂ : Shape} {a : Fin t.rank} {x x' : s₁.Idx → α} {y y' : s₂.Idx → α}
    (hx : x = x') (hy : y = y') (h : Shape.Concatenates [s₁, s₂] t a) :
    concatenate t a [⟨s₁, x⟩, ⟨s₂, y⟩] h = concatenate t a [⟨s₁, x'⟩, ⟨s₂, y'⟩] h := by
  subst hx hy; rfl

/-- The first layer's weights as handed to the region: the matrix turned, the bias as one more column, zeros. -/
theorem V_v3 : V m c main_call0_v3 = concatenate S128x104 1 [⟨S128x96, transpose S128x96 [1, 0] (m ((c.tc : Thread nD τ).loc main_arg1)) transposes_S96x128_S128x96_1_0⟩,
    ⟨S128x1, shapeCast S128x1 (m ((c.tc : Thread nD τ).loc main_arg2)) shapeCasts_S128_S128x1⟩,
    ⟨S128x7, broadcastInDim S128x7 ![] bcast_S_S128x7 (constant S_ .f32 0x00000000#32)⟩] concatenates_S128x96_S128x1_S128x7_S128x104_d1 := by
  unfold V V0
  simp only [hostOps0, List.flatten_cons, List.flatten_nil, List.append_nil, List.cons_append, List.nil_append, StableHlo.TRef.binary, StableHlo.TRef.nullary, StableHlo.TRef.unary, StableHlo.TRef.nary, StableHlo.TRef.reshape, StableHlo.TRef.toBuf, StableHlo.TRef.ofBuf, cast_eq]
  after_results_simp
  refine cat3_congr ?_ ?_ ?_ _
  · change HloOp.result _ _ (Proc.tc.devRef main_call0_v0) = _
    after_results_simp
  · change HloOp.result _ _ (Proc.tc.devRef main_call0_v1) = _
    after_results_simp
    rfl
  · change HloOp.result _ _ (Proc.tc.devRef main_call0_v2) = _
    after_results_simp

/-- Both gates' weights as handed to the region: the matrices side by side and turned, the second halved, the biases as
one more column, zeros. -/
theorem V_v13 : V m c main_call0_v13 = concatenate S256x136 1 [⟨S256x128, transpose S256x128 [1, 0]
      (concatenate S128x256 1 [⟨S128x128, m ((c.tc : Thread nD τ).loc main_arg3)⟩, ⟨S128x128, mulf (m ((c.tc : Thread nD τ).loc main_arg5)) (broadcastInDim S128x128 ![] bcast_S_S128x128 (constant S_ .f32 0x3F000000#32))⟩] concatenates_S128x128_S128x128_S128x256_d1)
      transposes_S128x256_S256x128_1_0⟩,
    ⟨S256x1, shapeCast S256x1 (concatenate S256 0 [⟨S128, m ((c.tc : Thread nD τ).loc main_arg4)⟩, ⟨S128, mulf (m ((c.tc : Thread nD τ).loc main_arg6)) (broadcastInDim S128 ![] bcast_S_S128 (constant S_ .f32 0x3F000000#32))⟩] concatenates_S128_S128_S256_d0) shapeCasts_S256_S256x1⟩,
    ⟨S256x7, broadcastInDim S256x7 ![] bcast_S_S256x7 (constant S_ .f32 0x00000000#32)⟩] concatenates_S256x128_S256x1_S256x7_S256x136_d1 := by
  unfold V V0
  simp only [hostOps0, List.flatten_cons, List.flatten_nil, List.append_nil, List.cons_append, List.nil_append, StableHlo.TRef.binary, StableHlo.TRef.nullary, StableHlo.TRef.unary, StableHlo.TRef.nary, StableHlo.TRef.reshape, StableHlo.TRef.toBuf, StableHlo.TRef.ofBuf, cast_eq]
  after_results_simp
  refine cat3_congr ?_ ?_ ?_ _
  · change HloOp.result _ _ (Proc.tc.devRef main_call0_v7) = _
    after_results_simp
    refine congrArg (fun x => transpose S256x128 [1, 0] x transposes_S128x256_S256x128_1_0) (cat2_congr ?_ ?_ _)
    · after_results_simp
    · after_results_simp
  · change HloOp.result _ _ (Proc.tc.devRef main_call0_v11) = _
    after_results_simp
    refine congrArg (fun x => shapeCast S256x1 x shapeCasts_S256_S256x1) (cat2_congr ?_ ?_ _)
    · after_results_simp
    · after_results_simp
  · change HloOp.result _ _ (Proc.tc.devRef main_call0_v12) = _
    after_results_simp

/-- The attention bias as handed to the region. -/
theorem V_v16 : V m c main_call0_v16 = shapeCast S1x1 (m ((c.tc : Thread nD τ).loc main_arg8)) shapeCasts_S1_S1x1 := by
  unfold V V0
  simp only [hostOps0, List.flatten_cons, List.flatten_nil, List.append_nil, List.cons_append, List.nil_append, StableHlo.TRef.binary, StableHlo.TRef.nullary, StableHlo.TRef.unary, StableHlo.TRef.nary, StableHlo.TRef.reshape, StableHlo.TRef.toBuf, StableHlo.TRef.ofBuf, cast_eq]
  after_results_simp
  rfl
/-- The classifier's weights are handed over as they are. -/
theorem V_arg9 : V m c main_arg9 = m ((c.tc : Thread nD τ).loc main_arg9) := V_keep m c main_arg9 (by decide)

/-- The instances as handed to the region: the matrix turned. -/
theorem V_v14 : V m c main_call0_v14 = transpose S96x200000 [1, 0] (m ((c.tc : Thread nD τ).loc main_arg0)) transposes_S200000x96_S96x200000_1_0 := by
  unfold V V0
  simp only [hostOps0, List.flatten_cons, List.flatten_nil, List.append_nil, List.cons_append, List.nil_append, StableHlo.TRef.binary, StableHlo.TRef.nullary, StableHlo.TRef.unary, StableHlo.TRef.nary, StableHlo.TRef.reshape, StableHlo.TRef.toBuf, StableHlo.TRef.ofBuf, cast_eq]
  after_results_simp

/-- The attention weights as handed to the region. -/
theorem V_v15 : V m c main_call0_v15 = shapeCast S1x128 (m ((c.tc : Thread nD τ).loc main_arg7)) shapeCasts_S128x1_S1x128 := by
  unfold V V0
  simp only [hostOps0, List.flatten_cons, List.flatten_nil, List.append_nil, List.cons_append, List.nil_append, StableHlo.TRef.binary, StableHlo.TRef.nullary, StableHlo.TRef.unary, StableHlo.TRef.nary, StableHlo.TRef.reshape, StableHlo.TRef.toBuf, StableHlo.TRef.ofBuf, cast_eq]
  after_results_simp
  rfl

/-- The classifier's bias as handed to the region. -/
theorem V_v17 : V m c main_call0_v17 = shapeCast S1x2 (m ((c.tc : Thread nD τ).loc main_arg10)) shapeCasts_S2_S1x2 := by
  unfold V V0
  simp only [hostOps0, List.flatten_cons, List.flatten_nil, List.append_nil, List.cons_append, List.nil_append, StableHlo.TRef.binary, StableHlo.TRef.nullary, StableHlo.TRef.unary, StableHlo.TRef.nary, StableHlo.TRef.reshape, StableHlo.TRef.toBuf, StableHlo.TRef.ofBuf, cast_eq]
  after_results_simp
  rfl

end Cert.Proof.K

end
-- ==== Proof.Math.lean ====
/-
Facts about extended reals: a positive factor moves through a finite sum, the sigmoid is a halved tanh, a running
softmax that rescales as its maximum grows agrees with the softmax taken at once.
-/
module

public import Idealize.ShloMosaic.PureOps.Ideal.Laws
public import Mathlib.Analysis.SpecialFunctions.Trigonometric.DerivHyp

@[expose] public section

noncomputable section

namespace Cert.Proof.Math

open Idealize.ShloMosaic
open scoped BigOperators

/-- A factor that is a real number and not negative moves into a sum. -/
theorem mul_sum {ι : Type} (r : ℝ) (hr : 0 ≤ r) (s : Finset ι) (f : ι → EReal) :
    (r : EReal) * ∑ i ∈ s, f i = ∑ i ∈ s, (r : EReal) * f i := by
  classical
  refine Finset.induction_on s (by simp) fun a t ha ih => ?_
  rw [Finset.sum_insert ha, Finset.sum_insert ha, ← ih]
  exact EReal.left_distrib_of_nonneg_of_ne_top (by exact_mod_cast hr) (EReal.coe_ne_top r) _ _

/-- The same with the factor on the right. -/
theorem sum_mul {ι : Type} (r : ℝ) (hr : 0 ≤ r) (s : Finset ι) (f : ι → EReal) :
    (∑ i ∈ s, f i) * (r : EReal) = ∑ i ∈ s, f i * (r : EReal) := by
  simp only [mul_comm _ (r : EReal)]; exact mul_sum r hr s f

/-- A finite sum of real numbers, read as extended reals, is the real sum. -/
theorem coe_sum {ι : Type} (s : Finset ι) (f : ι → ℝ) : ((∑ i ∈ s, f i : ℝ) : EReal) = ∑ i ∈ s, (f i : EReal) := by
  classical
  refine Finset.induction_on s (by simp) fun a t ha ih => ?_
  rw [Finset.sum_insert ha, Finset.sum_insert ha, ← ih, EReal.coe_add]

/-- One half, as a real number among the extended reals. -/
abbrev half : EReal := ((1 / 2 : ℝ) : EReal)

/-- On the reals the sigmoid is one half of the tanh of half the argument, plus one half. -/
theorem real_sigmoid (r : ℝ) : 1 / 2 * Real.tanh (1 / 2 * r) + 1 / 2 = (1 + Real.exp (-r))⁻¹ := by
  have e1 : Real.exp (1 / 2 * r) * Real.exp (-(1 / 2 * r)) = 1 := by rw [← Real.exp_add]; simp
  have e2 : Real.exp (-r) = Real.exp (-(1 / 2 * r)) * Real.exp (-(1 / 2 * r)) := by
    rw [← Real.exp_add]; congr 1; ring
  have p1 := Real.exp_pos (1 / 2 * r)
  have p2 := Real.exp_pos (-(1 / 2 * r))
  rw [Real.tanh_eq_sinh_div_cosh, Real.sinh_eq, Real.cosh_eq, e2]
  generalize Real.exp (1 / 2 * r) = a at *
  generalize Real.exp (-(1 / 2 * r)) = b at *
  have h1 : a + b ≠ 0 := by positivity
  have h2 : 1 + b * b ≠ 0 := by positivity
  field_simp
  linear_combination (2 * b) * e1

/-- A quotient by a real number that is not zero. -/
theorem div_coe (x : EReal) (r : ℝ) (hr : r ≠ 0) : Ideal.div x (r : EReal) = x * ((r⁻¹ : ℝ) : EReal) := by
  unfold Ideal.div
  rw [if_neg (by exact_mod_cast hr), EReal.coe_inv]

/-- The sigmoid at every extended real is one half of the tanh of half the argument, plus one half. -/
theorem sigmoid_eq (x : EReal) :
    half * Ideal.tanh (half * x) + half = Ideal.div 1 (1 + Ideal.exp (-x)) := by
  have hp : (0 : EReal) < half := by unfold half; exact_mod_cast (by norm_num : (0 : ℝ) < 1 / 2)
  induction x with
  | bot =>
    have : Ideal.div 1 (1 + (⊤ : EReal)) = 0 := by
      unfold Ideal.div
      have h1 : (1 : EReal) + ⊤ = ⊤ := by exact EReal.coe_add_top 1
      rw [h1]; simp
    rw [EReal.mul_bot_of_pos hp]
    show half * (-1 : EReal) + half = Ideal.div 1 (1 + Ideal.exp (-⊥))
    rw [EReal.neg_bot]; show _ = Ideal.div 1 (1 + (⊤ : EReal)); rw [this]
    have hm : (-1 : EReal) = ((-1 : ℝ) : EReal) := by simp
    rw [hm, ← EReal.coe_mul, ← EReal.coe_add, ← EReal.coe_zero]
    congr 1; norm_num
  | top =>
    rw [EReal.mul_top_of_pos hp]
    show half * (1 : EReal) + half = Ideal.div 1 (1 + Ideal.exp (-⊤))
    rw [EReal.neg_top]; show _ = Ideal.div 1 (1 + (0 : EReal))
    have h1 : (1 : EReal) + 0 = ((1 : ℝ) : EReal) := by simp
    rw [h1, div_coe _ _ one_ne_zero]
    unfold half
    exact_mod_cast (by norm_num : (1 / 2 : ℝ) * 1 + 1 / 2 = 1 * 1⁻¹)
  | coe r =>
    unfold half
    rw [← EReal.coe_mul, ← EReal.coe_neg]
    show ((1 / 2 : ℝ) : EReal) * ((Real.tanh (1 / 2 * r) : ℝ) : EReal) + ((1 / 2 : ℝ) : EReal)
      = Ideal.div 1 (1 + ((Real.exp (-r) : ℝ) : EReal))
    have h1 : (1 : EReal) + ((Real.exp (-r) : ℝ) : EReal) = ((1 + Real.exp (-r) : ℝ) : EReal) := by
      rw [EReal.coe_add, EReal.coe_one]
    have hne : (1 + Real.exp (-r) : ℝ) ≠ 0 := by have := Real.exp_pos (-r); positivity
    rw [h1, div_coe _ _ hne, ← EReal.coe_mul, ← EReal.coe_add, real_sigmoid, one_mul]

/-- The tanh of an extended real is a real number. -/
theorem tanh_real (x : EReal) : ∃ r : ℝ, Ideal.tanh x = (r : EReal) := by
  induction x with
  | bot => exact ⟨-1, by show (-1 : EReal) = _; simp⟩
  | top => exact ⟨1, by show (1 : EReal) = _; simp⟩
  | coe r => exact ⟨_, rfl⟩

/-- The sigmoid of an extended real is a real number. -/
theorem sigmoid_real (x : EReal) : ∃ r : ℝ, Ideal.div 1 (1 + Ideal.exp (-x)) = (r : EReal) := by
  obtain ⟨t, ht⟩ := tanh_real (half * x)
  refine ⟨1 / 2 * t + 1 / 2, ?_⟩
  rw [← sigmoid_eq, ht, EReal.coe_add, EReal.coe_mul]

/-- An extended real whose absolute value is below the top is a real number. -/
theorem real_of_abs_lt (x : EReal) (h : max x (-x) < ⊤) : ∃ r : ℝ, x = (r : EReal) := by
  induction x with
  | bot => simp at h
  | top => simp at h
  | coe r => exact ⟨r, rfl⟩

/-- The greatest of finitely many values, none of them the top and one of them a real number, is a real number. -/
theorem fold_max_real {ι : Type} (s : Finset ι) (f : ι → EReal) (b : EReal) (hb : b ≠ ⊤) (hf : ∀ i ∈ s, f i ≠ ⊤)
    (i : ι) (hi : i ∈ s) (hbot : f i ≠ ⊥) : ∃ r : ℝ, s.fold max b f = (r : EReal) := by
  have h1 : s.fold max b f < ⊤ :=
    (Finset.fold_max_lt _).2 ⟨lt_top_iff_ne_top.2 hb, fun j hj => lt_top_iff_ne_top.2 (hf j hj)⟩
  have h2 : ⊥ < s.fold max b f := (Finset.lt_fold_max _).2 (Or.inr ⟨i, hi, bot_lt_iff_ne_bot.2 hbot⟩)
  exact ⟨_, (EReal.coe_toReal h1.ne h2.ne').symm⟩

/-! ### The running softmax -/

section Running
variable {D : Type} (z : ℕ → ℝ) (x : ℕ → D → EReal) (N : ℕ)

/-- The weight of item `j` relative to the level `μ`; items from `N` on weigh nothing. -/
def wt (μ : ℝ) (j : ℕ) : ℝ := if j < N then Real.exp (z j - μ) else 0

/-- A weight is not negative. -/
theorem wt_nonneg (μ : ℝ) (j : ℕ) : 0 ≤ wt z N μ j := by unfold wt; split <;> positivity

/-- Changing the level multiplies every weight by one factor. -/
theorem wt_level (μ ν : ℝ) (j : ℕ) : wt z N μ j * Real.exp (μ - ν) = wt z N ν j := by
  unfold wt
  split
  · rw [← Real.exp_add]; congr 1; ring
  · simp

/-- The three carried values after the first `k` items: whatever the next level is, the rescaled sums are the sums at
that level. -/
def Ready (k : ℕ) (mx sm : EReal) (acc : D → EReal) : Prop :=
  mx ≠ ⊤ ∧ ∀ ν : ℝ, sm * Ideal.exp (mx - (ν : EReal)) = ∑ j ∈ Finset.range k, (wt z N ν j : EReal)
    ∧ ∀ d, acc d * Ideal.exp (mx - (ν : EReal)) = ∑ j ∈ Finset.range k, (wt z N ν j : EReal) * x j d

/-- The three carried values after the first `k` items, at the level `μ`. -/
def At (k : ℕ) (μ : ℝ) (mx sm : EReal) (acc : D → EReal) : Prop :=
  mx = (μ : EReal) ∧ sm = ∑ j ∈ Finset.range k, (wt z N μ j : EReal)
    ∧ ∀ d, acc d = ∑ j ∈ Finset.range k, (wt z N μ j : EReal) * x j d

/-- Before any item: the level is the bottom and both sums are zero. -/
theorem ready_init : Ready z x N 0 ⊥ 0 fun _ => 0 :=
  ⟨bot_ne_top, fun ν => ⟨by simp, fun d => by simp⟩⟩

/-- The exponential of a difference of real numbers. -/
theorem exp_coe_sub (a b : ℝ) : Ideal.exp ((a : EReal) - (b : EReal)) = ((Real.exp (a - b) : ℝ) : EReal) := by
  rw [← EReal.coe_sub]; rfl

/-- Sums at a level are ready for the next level. -/
theorem At.ready {k : ℕ} {μ : ℝ} {mx sm : EReal} {acc : D → EReal} (h : At z x N k μ mx sm acc) :
    Ready z x N k mx sm acc := by
  obtain ⟨rfl, rfl, ha⟩ := h
  refine ⟨EReal.coe_ne_top _, fun ν => ⟨?_, fun d => ?_⟩⟩
  · rw [exp_coe_sub, sum_mul _ (Real.exp_pos _).le]
    exact Finset.sum_congr rfl fun j _ => by rw [← EReal.coe_mul, wt_level]
  · rw [ha, exp_coe_sub, sum_mul _ (Real.exp_pos _).le]
    refine Finset.sum_congr rfl fun j _ => ?_
    rw [← wt_level z N μ ν j, EReal.coe_mul, mul_assoc, mul_assoc, mul_comm (x j d)]

/-- One step over the next `B` items: rescale the old sums to the new level and add the items' own. -/
theorem Ready.step {k B : ℕ} {mx sm mx' sm' : EReal} {acc acc' : D → EReal} (h : Ready z x N k mx sm acc) (μ : ℝ)
    (hm : mx' = (μ : EReal))
    (hs : sm' = sm * Ideal.exp (mx - (μ : EReal)) + ∑ b ∈ Finset.range B, (wt z N μ (k + b) : EReal))
    (ha : ∀ d, acc' d = acc d * Ideal.exp (mx - (μ : EReal)) + ∑ b ∈ Finset.range B, (wt z N μ (k + b) : EReal) * x (k + b) d) :
    At z x N (k + B) μ mx' sm' acc' := by
  refine ⟨hm, ?_, fun d => ?_⟩
  · rw [hs, (h.2 μ).1, Finset.sum_range_add]
  · rw [ha, (h.2 μ).2 d, Finset.sum_range_add]

/-- Sums of weighted items stop at `N`. -/
theorem sum_wt {k : ℕ} (hk : N ≤ k) (μ : ℝ) (f : ℕ → EReal) :
    ∑ j ∈ Finset.range k, (wt z N μ j : EReal) * f j = ∑ j : Fin N, ((Real.exp (z j - μ) : ℝ) : EReal) * f j := by
  rw [← Finset.sum_subset (Finset.range_subset_range.2 hk), Finset.sum_range]
  · refine Finset.sum_congr rfl fun j _ => ?_
    unfold wt; rw [if_pos j.isLt]
  · intro j _ hj
    have : ¬ j < N := by simpa using hj
    unfold wt; rw [if_neg this]; simp

/-- The running softmax's quotient is the softmax taken at any level at once. -/
theorem At.quotient {k : ℕ} (hk : N ≤ k) (hN : 0 < N) {μ : ℝ} {mx sm : EReal} {acc : D → EReal}
    (h : At z x N k μ mx sm acc) (M : ℝ) (d : D) :
    Ideal.div (acc d) sm = ∑ j : Fin N,
      Ideal.div ((Real.exp (z j - M) : ℝ) : EReal) (∑ i : Fin N, ((Real.exp (z i - M) : ℝ) : EReal)) * x j d := by
  obtain ⟨-, hs, ha⟩ := h
  have hs' : sm = ((∑ j : Fin N, Real.exp (z j - μ) : ℝ) : EReal) := by
    have := sum_wt z N hk μ fun _ => 1
    simp only [mul_one] at this
    rw [hs, this, coe_sum]
  have pos : ∀ c : ℝ, 0 < ∑ j : Fin N, Real.exp (z j - c) := fun c =>
    Finset.sum_pos (fun j _ => Real.exp_pos _) ⟨⟨0, hN⟩, Finset.mem_univ _⟩
  have lev : ∀ j : Fin N, Real.exp (z j - μ) = Real.exp (z j - M) * Real.exp (M - μ) := fun j => by
    rw [← Real.exp_add]; congr 1; ring
  have ratio : ∀ j : Fin N, Real.exp (z j - μ) * (∑ i : Fin N, Real.exp (z i - μ))⁻¹
      = Real.exp (z j - M) * (∑ i : Fin N, Real.exp (z i - M))⁻¹ := fun j => by
    simp only [lev]
    rw [← Finset.sum_mul]
    have h1 := (pos M).ne'
    have h2 := (Real.exp_pos (M - μ)).ne'
    field_simp
  rw [hs', div_coe _ _ (pos μ).ne', ha, sum_wt z N hk μ fun j => x j d, sum_mul _ (inv_nonneg.2 (pos μ).le)]
  refine Finset.sum_congr rfl fun j _ => ?_
  rw [← coe_sum, div_coe _ _ (pos M).ne', ← EReal.coe_mul, ← ratio, EReal.coe_mul, mul_assoc, mul_assoc,
    mul_comm (x j d)]

end Running

/-- The first of two items put in order: the second when it goes before the first, else the first. -/
theorem sortedFrom_two (before : Fin 2 → Fin 2 → Bool) (h : before 1 0 = true → before 0 1 = false) :
    sortedFrom before 0 = if before 1 0 = true then 1 else 0 := by
  revert h; revert before; decide

end Cert.Proof.Math

end
-- ==== Proof.Index.lean ====
/-
Array operations read at one index, where the arrays hold extended reals: products of matrices, broadcasts of a bias,
and the reductions of a one-row matrix to its maximum or its sum.
-/
module

public import proofs.«01_k».proof.Proof.Math
public import Idealize.ShloMosaic.Lib.MatmulPlain
public import Idealize.ShloMosaic.Lib.KernelVsHost
public import Idealize.ShloMosaic.Lib.IdealHost
public import Idealize.ShloMosaic.Lib.ValueLayoutCasts
public import Idealize.ShloMosaic.Lib.ValueLayout
public import Idealize.ShloMosaic.Lib.Pipeline.Value

@[expose] public section

noncomputable section

namespace Cert.Proof.Index

open Idealize.ShloMosaic Idealize.ShloMosaic.ValueIdx
open scoped BigOperators

/-- The pattern of minus infinity reads as the bottom element. -/
theorem ofBits_bot : (FloatOps.ofBits .f32 0xFF800000#32 : Ideal .f32) = (⊥ : EReal) := by
  show Ideal.ofBits .f32 0xFF800000#32 = ⊥
  simp [Ideal.ofBits, Ideal.ieee, -EReal.coe_mul]
/-- The pattern of plus infinity reads as the top element. -/
theorem ofBits_top : (FloatOps.ofBits .f32 0x7F800000#32 : Ideal .f32) = (⊤ : EReal) := by
  show Ideal.ofBits .f32 0x7F800000#32 = ⊤
  simp [Ideal.ofBits, Ideal.ieee, -EReal.coe_mul]
/-- The pattern of one reads as one. -/
theorem ofBits_one : (FloatOps.ofBits .f32 0x3F800000#32 : Ideal .f32) = (1 : EReal) := by
  show Ideal.ofBits .f32 0x3F800000#32 = 1
  simp [Ideal.ofBits, Ideal.ieee, -EReal.coe_mul]; norm_num
/-- The pattern of one half reads as one half. -/
theorem ofBits_half : (FloatOps.ofBits .f32 0x3F000000#32 : Ideal .f32) = Math.half := by
  show Ideal.ofBits .f32 0x3F000000#32 = Math.half
  simp [Ideal.ofBits, Ideal.ieee, -EReal.coe_mul]; norm_num
/-- The pattern of zero reads as zero. -/
theorem ofBits_zero : (FloatOps.ofBits .f32 0x00000000#32 : Ideal .f32) = (0 : EReal) := Ideal.ofBits_zero_f32

/-- A fold of the maximum is unchanged by renaming its terms. -/
theorem fold_equiv {ι κ : Type} [Fintype ι] [Fintype κ] (e : ι ≃ κ) (b : EReal) (f : κ → EReal) :
    Finset.univ.fold max b f = Finset.univ.fold max b fun i => f (e i) := by
  rw [← Finset.map_univ_equiv e, Finset.fold_map]; rfl

/-- The positions of a one-row matrix are its columns. -/
def rowEquiv (n : ℕ) : Fin n ≃ (⟨2, ![1, n]⟩ : Shape).Idx where
  toFun j := ix2 0 j
  invFun i := i 1
  left_inv _ := rfl
  right_inv i := by
    rw [eq_ix2 i]; funext a
    match a with
    | ⟨0, _⟩ => exact Subsingleton.elim (α := Fin 1) _ _
    | ⟨1, _⟩ => rfl

/-- The positions of a one-row matrix under a further unit axis are its columns. -/
def rowEquiv3 (n : ℕ) : Fin n ≃ (⟨3, ![1, 1, n]⟩ : Shape).Idx where
  toFun j := ix3 0 0 j
  invFun i := i 2
  left_inv _ := rfl
  right_inv i := by
    rw [eq_ix3 i]; funext a
    match a with
    | ⟨0, _⟩ => exact Subsingleton.elim (α := Fin 1) _ _
    | ⟨1, _⟩ => exact Subsingleton.elim (α := Fin 1) _ _
    | ⟨2, _⟩ => rfl

/-- A one-row matrix's index is its row zero and its column. -/
theorem eq_row {n : ℕ} (i : (⟨2, ![1, n]⟩ : Shape).Idx) : i = ix2 0 (i 1) := ((rowEquiv n).apply_symm_apply i).symm

/-- A host's matrix product at a row and a column. -/
theorem hostDot_apply {M K N : ℕ} (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (i : Fin M) (j : Fin N) :
    Host.dotGeneral D none l r (ix2 i j) = ∑ k : Fin K, l (ix2 i k) * r (ix2 k j) := by
  subst hD
  rw [← matmul_zero_eq_dotGeneral]
  refine (Ideal.matmul_plain_apply none l r _ i j).trans ?_
  show (FloatOps.ofBits .f32 0x00000000#32 : Ideal .f32) + _ = _
  rw [ofBits_zero]; exact zero_add _

/-- A kernel's matrix product into zeros at a row and a column. -/
theorem matmul_apply {M K N : ℕ} (D : DotDims ⟨2, ![M, K]⟩ ⟨2, ![K, N]⟩ ⟨2, ![M, N]⟩) (hD : D = DotDims.plain M K N)
    (prec : Option ContractPrecision)
    (l : FVec Ideal ⟨2, ![M, K]⟩ .f32) (r : FVec Ideal ⟨2, ![K, N]⟩ .f32) (i : Fin M) (j : Fin N) :
    matmul D prec l r (constant ⟨2, ![M, N]⟩ .f32 0x00000000#32) (ix2 i j) = ∑ k : Fin K, l (ix2 i k) * r (ix2 k j) := by
  subst hD
  refine (Ideal.matmul_plain_apply prec l r _ i j).trans ?_
  show (FloatOps.ofBits .f32 0x00000000#32 : Ideal .f32) + _ = _
  rw [ofBits_zero]; exact zero_add _

/-- A kernel's product with a transposed right matrix, into zeros, at a row and a column. -/
theorem matmulT_apply {M K N : ℕ} (D : DotDims ⟨2, ![M, K]⟩ ⟨2, ![N, K]⟩ ⟨2, ![M, N]⟩) (hD : D = DotDims.transposedRhs M K N)
    (prec : Option ContractPrecision)
    (l : FVec Ideal ⟨2, ![M, K]⟩ .f32) (r : FVec Ideal ⟨2, ![N, K]⟩ .f32) (i : Fin M) (j : Fin N) :
    matmul D prec l r (constant ⟨2, ![M, N]⟩ .f32 0x00000000#32) (ix2 i j) = ∑ k : Fin K, l (ix2 i k) * r (ix2 j k) := by
  subst hD
  refine (Ideal.matmul_transposedRhs_apply prec l r _ i j).trans ?_
  show (FloatOps.ofBits .f32 0x00000000#32 : Ideal .f32) + _ = _
  rw [ofBits_zero]; exact zero_add _

/-- A vector laid as a one-row matrix. -/
theorem rowOf_apply {K : ℕ} {α : Type} (h : (⟨1, ![K]⟩ : Shape).BroadcastsInDim ⟨2, ![1, K]⟩ ![1])
    (b : (⟨1, ![K]⟩ : Shape).Idx → α) (u : Fin 1) (j : Fin K) :
    broadcastInDim ⟨2, ![1, K]⟩ ![1] h b (ix2 u j) = b (ix1 j) := by
  refine broadcastInDim_apply _ h b _ _ fun a => ?_
  match a with
  | ⟨0, _⟩ =>
    show j.val = if K = 1 then 0 else j.val
    split
    · have := j.isLt; omega
    · rfl

/-- A one-row matrix repeated along the rows. -/
theorem rows_apply {N K : ℕ} {α : Type} (h : (⟨2, ![1, K]⟩ : Shape).BroadcastsInDim ⟨2, ![N, K]⟩ ![0, 1])
    (b : (⟨2, ![1, K]⟩ : Shape).Idx → α) (i : Fin N) (j : Fin K) :
    broadcastInDim ⟨2, ![N, K]⟩ ![0, 1] h b (ix2 i j) = b (ix2 0 j) := by
  refine broadcastInDim_apply _ h b _ _ fun a => ?_
  match a with
  | ⟨0, _⟩ => rfl
  | ⟨1, _⟩ =>
    show j.val = if K = 1 then 0 else j.val
    split
    · have := j.isLt; omega
    · rfl

/-- A single number repeated along a row. -/
theorem spread_apply {N : ℕ} {α : Type} (h1 : (⟨1, ![1]⟩ : Shape).BroadcastsInDim ⟨2, ![1, 1]⟩ ![0])
    (h2 : (⟨2, ![1, 1]⟩ : Shape).BroadcastsInDim ⟨2, ![1, N]⟩ ![0, 1]) (b : (⟨1, ![1]⟩ : Shape).Idx → α) (i : Fin 1) (j : Fin N) :
    broadcastInDim ⟨2, ![1, N]⟩ ![0, 1] h2 (broadcastInDim ⟨2, ![1, 1]⟩ ![0] h1 b) (ix2 i j) = b (ix1 0) := by
  refine (broadcastInDim_apply _ h2 _ _ (ix2 0 0) fun a => ?_).trans (broadcastInDim_apply _ h1 b _ _ fun a => ?_)
  · match a with | ⟨0, _⟩ => rfl | ⟨1, _⟩ => rfl
  · match a with | ⟨0, _⟩ => rfl

/-- The host's maximum of a one-row matrix. -/
theorem hostMax_apply {n : ℕ} (h : (⟨2, ![1, n]⟩ : Shape).ReducesTo [1] ⟨1, ![1]⟩) (hu : 0 < (⟨0, ![]⟩ : Shape).numel)
    (x : FVec Ideal ⟨2, ![1, n]⟩ .f32) (j : (⟨1, ![1]⟩ : Shape).Idx) :
    Host.reduce FloatOps.maximumf x (constant ⟨0, ![]⟩ .f32 0xFF800000#32) h hu j
      = Finset.univ.fold max ⊥ fun i : Fin n => x (ix2 0 i) := by
  rw [Host.reduce_eq_fold, Finset.filter_true_of_mem fun i _ => ?_]
  · rw [show (constant ⟨0, ![]⟩ .f32 0xFF800000#32 : FVec Ideal ⟨0, ![]⟩ .f32) (Shape.Idx.first hu) = (⊥ : EReal) from ofBits_bot]
    exact fold_equiv (rowEquiv n) ⊥ x
  · rw [eq_ix1 (h.drop i), eq_ix1 j]; exact congrArg ix1 (Subsingleton.elim (α := Fin 1) _ _)

/-- The host's maximum of a one-row matrix, taken once more against minus infinity. -/
theorem hostLevel_apply {n : ℕ} (h : (⟨2, ![1, n]⟩ : Shape).ReducesTo [1] ⟨1, ![1]⟩) (hu : 0 < (⟨0, ![]⟩ : Shape).numel)
    (hb : (⟨0, ![]⟩ : Shape).BroadcastsInDim ⟨1, ![1]⟩ ![]) (x : FVec Ideal ⟨2, ![1, n]⟩ .f32) (j : (⟨1, ![1]⟩ : Shape).Idx) :
    maximumf (broadcastInDim ⟨1, ![1]⟩ ![] hb (constant ⟨0, ![]⟩ .f32 0xFF800000#32))
        (Host.reduce FloatOps.maximumf x (constant ⟨0, ![]⟩ .f32 0xFF800000#32) h hu) j
      = Finset.univ.fold max ⊥ fun i : Fin n => x (ix2 0 i) := by
  rw [maximumf_apply, hostMax_apply, broadcastInDim_scalar_apply,
    show (constant ⟨0, ![]⟩ .f32 0xFF800000#32 : FVec Ideal ⟨0, ![]⟩ .f32) ix0 = (⊥ : EReal) from ofBits_bot]
  exact bot_sup_eq _

/-- A single pattern repeated over an array. -/
theorem splat_apply {T : Shape} (h : (⟨0, ![]⟩ : Shape).BroadcastsInDim T ![]) (w : BitVec 32) (j : T.Idx) :
    broadcastInDim T ![] h (constant ⟨0, ![]⟩ .f32 w : FVec Ideal ⟨0, ![]⟩ .f32) j = FloatOps.ofBits .f32 w :=
  broadcastInDim_scalar_apply _ _ _

/-- The host's sum of a one-row matrix. -/
theorem hostSum_apply {n : ℕ} (h : (⟨2, ![1, n]⟩ : Shape).ReducesTo [1] ⟨1, ![1]⟩) (hu : 0 < (⟨0, ![]⟩ : Shape).numel)
    (x : FVec Ideal ⟨2, ![1, n]⟩ .f32) (j : (⟨1, ![1]⟩ : Shape).Idx) :
    Host.reduceAdd x (constant ⟨0, ![]⟩ .f32 0x00000000#32) h hu j = ∑ i : Fin n, x (ix2 0 i) := by
  rw [hostReduceAdd_apply, Ideal.hostReduceAdd_total h (fun b => match b with | ⟨0, _⟩ => rfl)]
  rw [show (constant ⟨0, ![]⟩ .f32 0x00000000#32 : FVec Ideal ⟨0, ![]⟩ .f32) (Shape.Idx.first hu) = (0 : EReal) from ofBits_zero, zero_add]
  exact (Equiv.sum_comp (rowEquiv n) x).symm

/-- A kernel's maximum of a one-row matrix under a further unit axis. -/
theorem max_apply {n : ℕ} (hc : (⟨2, ![1, n]⟩ : Shape).ShapeCasts ⟨3, ![1, 1, n]⟩)
    (h : (⟨3, ![1, 1, n]⟩ : Shape).Reduces [1, 2] ⟨1, ![1]⟩) (hφ : FKind.Formats .f32)
    (hacc : 0xFF800000#32 = FKind.maximumf.neutral .f32 hφ) (x : FVec Ideal ⟨2, ![1, n]⟩ .f32) (j : (⟨1, ![1]⟩ : Shape).Idx) :
    multiReduction .maximumf [1, 2] ⟨1, ![1]⟩ (shapeCast ⟨3, ![1, 1, n]⟩ x hc) 0xFF800000#32 h hφ hacc j
      = Finset.univ.fold max ⊥ fun i : Fin n => x (ix2 0 i) := by
  rw [multiReduction_maximumf_eq_fold, Finset.filter_true_of_mem fun i _ => ?_, ofBits_bot]
  · refine (fold_equiv (rowEquiv3 n) ⊥ _).trans (congrArg (Finset.univ.fold max ⊥) (funext fun i => ?_))
    exact shapeCast_ab_1ab_apply x hc 0 0 i
  · rw [eq_ix1 (h.drop i), eq_ix1 j]; exact congrArg ix1 (Subsingleton.elim (α := Fin 1) _ _)

/-- A kernel's sum of a one-row matrix under a further unit axis. -/
theorem sum_apply {n : ℕ} (hc : (⟨2, ![1, n]⟩ : Shape).ShapeCasts ⟨3, ![1, 1, n]⟩)
    (h : (⟨3, ![1, 1, n]⟩ : Shape).Reduces [1, 2] ⟨1, ![1]⟩) (hφ : FKind.Formats .f32)
    (hacc : 0x00000000#32 = FKind.add.neutral .f32 hφ) (x : FVec Ideal ⟨2, ![1, n]⟩ .f32) (j : (⟨1, ![1]⟩ : Shape).Idx) :
    multiReduction .add [1, 2] ⟨1, ![1]⟩ (shapeCast ⟨3, ![1, 1, n]⟩ x hc) 0x00000000#32 h hφ hacc j
      = ∑ i : Fin n, x (ix2 0 i) := by
  rw [Ideal.multiReduction_add_total _ _ h (fun b => match b with | ⟨0, _⟩ => rfl)]
  refine (Equiv.sum_comp (rowEquiv3 n) _).symm.trans (Finset.sum_congr rfl fun i _ => ?_)
  exact shapeCast_ab_1ab_apply x hc 0 0 i

end Cert.Proof.Index

end
-- ==== Proof.Layout.lean ====
/-
Layout read at an index: a weight matrix carrying its bias as one more column, pieces laid side by side, and a block
stored over rows of ones.
-/
module

public import proofs.«01_k».proof.Proof.Index
public import proofs.«01_k».proof.Proof.State

@[expose] public section

noncomputable section

namespace Cert.Proof.Layout

open Idealize.ShloMosaic Idealize.ShloMosaic.ValueIdx
open scoped BigOperators

/-! ### A weight matrix carrying its bias -/

/-- A row of a weight matrix under a bias: `n` weights, the bias, then seven zeros. -/
def BiasRow {n : ℕ} (f : Fin (n + 8) → EReal) (p : Fin n → EReal) (β : EReal) : Prop :=
  (∀ k, f (Fin.castAdd 8 k) = p k) ∧ f (Fin.natAdd n 0) = β ∧ ∀ r : Fin 7, f (Fin.natAdd n r.succ) = 0

/-- The product of such a row with a column ending in eight ones is the affine map. -/
theorem BiasRow.dot {n : ℕ} {f : Fin (n + 8) → EReal} {p : Fin n → EReal} {β : EReal} (h : BiasRow f p β)
    (g : Fin (n + 8) → EReal) (q : Fin n → EReal) (hq : ∀ k, g (Fin.castAdd 8 k) = q k) (h1 : ∀ r, g (Fin.natAdd n r) = 1) :
    ∑ k, f k * g k = (∑ k, q k * p k) + β := by
  rw [Fin.sum_univ_add]
  refine congrArg₂ (· + ·) (Finset.sum_congr rfl fun k _ => ?_) ?_
  · rw [h.1, hq, mul_comm]
  · rw [Fin.sum_univ_succ, h1, h.2.1, mul_one, Finset.sum_eq_zero fun r _ => ?_, add_zero]
    rw [h.2.2, zero_mul]

/-- A row's weights and bias may be replaced by equal ones. -/
theorem BiasRow.congr {n : ℕ} {f : Fin (n + 8) → EReal} {p p' : Fin n → EReal} {β β' : EReal} (h : BiasRow f p β)
    (hp : ∀ k, p k = p' k) (hβ : β = β') : BiasRow f p' β' := by
  rwa [← funext hp, ← hβ]

variable {α : Type} {r n q N : ℕ}

/-- Three pieces side by side, read in the first. -/
theorem cat3_fst (x : (⟨2, ![r, n]⟩ : Shape).Idx → α) (y : (⟨2, ![r, 1]⟩ : Shape).Idx → α) (z : (⟨2, ![r, q]⟩ : Shape).Idx → α)
    (h : Shape.Concatenates [⟨2, ![r, n]⟩, ⟨2, ![r, 1]⟩, ⟨2, ![r, q]⟩] ⟨2, ![r, N]⟩ 1) (d : Fin r) (k : Fin n) (j : Fin N) (hj : j.val = k.val) :
    concatenate ⟨2, ![r, N]⟩ 1 [⟨⟨2, ![r, n]⟩, x⟩, ⟨⟨2, ![r, 1]⟩, y⟩, ⟨⟨2, ![r, q]⟩, z⟩] h (ix2 d j) = x (ix2 d k) := by
  refine concatenate_apply_piece 1 [⟨⟨2, ![r, n]⟩, x⟩, ⟨⟨2, ![r, 1]⟩, y⟩, ⟨⟨2, ![r, q]⟩, z⟩] h (ix2 d j) 0 (by simp) _ x rfl rfl 0 rfl (ix2 d k) (fun b hb => ?_) ?_
  · match b with | ⟨0, _⟩ => rfl | ⟨1, _⟩ => exact absurd rfl hb
  · exact (Nat.zero_add _).trans hj.symm

/-- Three pieces side by side, read in the one column of the second. -/
theorem cat3_snd (x : (⟨2, ![r, n]⟩ : Shape).Idx → α) (y : (⟨2, ![r, 1]⟩ : Shape).Idx → α) (z : (⟨2, ![r, q]⟩ : Shape).Idx → α)
    (h : Shape.Concatenates [⟨2, ![r, n]⟩, ⟨2, ![r, 1]⟩, ⟨2, ![r, q]⟩] ⟨2, ![r, N]⟩ 1) (d : Fin r) (j : Fin N) (hj : j.val = n) :
    concatenate ⟨2, ![r, N]⟩ 1 [⟨⟨2, ![r, n]⟩, x⟩, ⟨⟨2, ![r, 1]⟩, y⟩, ⟨⟨2, ![r, q]⟩, z⟩] h (ix2 d j) = y (ix2 d 0) := by
  refine concatenate_apply_piece 1 [⟨⟨2, ![r, n]⟩, x⟩, ⟨⟨2, ![r, 1]⟩, y⟩, ⟨⟨2, ![r, q]⟩, z⟩] h (ix2 d j) 1 (by simp) _ y rfl rfl n rfl (ix2 d 0) (fun b hb => ?_) ?_
  · match b with | ⟨0, _⟩ => rfl | ⟨1, _⟩ => exact absurd rfl hb
  · exact hj.symm

/-- Three pieces side by side, read in the third. -/
theorem cat3_thd (x : (⟨2, ![r, n]⟩ : Shape).Idx → α) (y : (⟨2, ![r, 1]⟩ : Shape).Idx → α) (z : (⟨2, ![r, q]⟩ : Shape).Idx → α)
    (h : Shape.Concatenates [⟨2, ![r, n]⟩, ⟨2, ![r, 1]⟩, ⟨2, ![r, q]⟩] ⟨2, ![r, N]⟩ 1) (d : Fin r) (k : Fin q) (j : Fin N) (hj : j.val = n + 1 + k.val) :
    concatenate ⟨2, ![r, N]⟩ 1 [⟨⟨2, ![r, n]⟩, x⟩, ⟨⟨2, ![r, 1]⟩, y⟩, ⟨⟨2, ![r, q]⟩, z⟩] h (ix2 d j) = z (ix2 d k) := by
  refine concatenate_apply_piece 1 [⟨⟨2, ![r, n]⟩, x⟩, ⟨⟨2, ![r, 1]⟩, y⟩, ⟨⟨2, ![r, q]⟩, z⟩] h (ix2 d j) 2 (by simp) _ z rfl rfl (n + 1) rfl (ix2 d k) (fun b hb => ?_) ?_
  · match b with | ⟨0, _⟩ => rfl | ⟨1, _⟩ => exact absurd rfl hb
  · exact hj.symm

/-- Weights, biases and zeros side by side carry the bias in each row. -/
theorem biasRow_cat3 (x : (⟨2, ![r, n]⟩ : Shape).Idx → EReal) (y : (⟨2, ![r, 1]⟩ : Shape).Idx → EReal) (z : (⟨2, ![r, 7]⟩ : Shape).Idx → EReal)
    (h : Shape.Concatenates [⟨2, ![r, n]⟩, ⟨2, ![r, 1]⟩, ⟨2, ![r, 7]⟩] ⟨2, ![r, n + 8]⟩ 1) (d : Fin r) (hz : ∀ k, z (ix2 d k) = 0) :
    BiasRow (fun k => concatenate ⟨2, ![r, n + 8]⟩ 1 [⟨⟨2, ![r, n]⟩, x⟩, ⟨⟨2, ![r, 1]⟩, y⟩, ⟨⟨2, ![r, 7]⟩, z⟩] h (ix2 d k))
      (fun k => x (ix2 d k)) (y (ix2 d 0)) :=
  ⟨fun k => cat3_fst x y z h d k _ rfl, cat3_snd x y z h d _ rfl,
    fun k => (cat3_thd x y z h d k _ (show n + (k.val + 1) = _ by omega)).trans (hz k)⟩

/-! ### A block stored over rows of ones -/

/-- Ones stored over by a block: inside the block's rows, the block … -/
theorem put_top {n k c : ℕ} (o : α) (w : ((a : Fin 2) → Fin ((![n, c] : Fin 2 → ℕ) a)) → α) (i : Fin n) (j : Fin c) :
    VecWindow.put (s := ⟨2, ![n + k, c]⟩) (fun _ => o) ![0, 0] ![n, c] w (ix2 (Fin.castAdd k i) j) = w (ix2 i j) := by
  unfold VecWindow.put
  have h : ∀ a : Fin 2, (![0, 0] : Fin 2 → ℕ) a ≤ ((ix2 (Fin.castAdd k i) j : (⟨2, ![n + k, c]⟩ : Shape).Idx) a).val
      ∧ ((ix2 (Fin.castAdd k i) j : (⟨2, ![n + k, c]⟩ : Shape).Idx) a).val < (![0, 0] : Fin 2 → ℕ) a + (![n, c] : Fin 2 → ℕ) a := fun a => by
    match a with
    | ⟨0, _⟩ => exact ⟨Nat.zero_le _, lt_of_lt_of_eq i.isLt (Nat.zero_add n).symm⟩
    | ⟨1, _⟩ => exact ⟨Nat.zero_le _, lt_of_lt_of_eq j.isLt (Nat.zero_add c).symm⟩
  refine (dif_pos h).trans (congrArg w (funext fun a => ?_))
  match a with
  | ⟨0, _⟩ => rfl
  | ⟨1, _⟩ => rfl

/-- … and below them, still ones. -/
theorem put_bottom {n k c : ℕ} (o : α) (w : ((a : Fin 2) → Fin ((![n, c] : Fin 2 → ℕ) a)) → α) (i : Fin k) (j : Fin c) :
    VecWindow.put (s := ⟨2, ![n + k, c]⟩) (fun _ => o) ![0, 0] ![n, c] w (ix2 (Fin.natAdd n i) j) = o := by
  unfold VecWindow.put
  refine dif_neg fun h => ?_
  have h0 : n + i.val < 0 + n := (h 0).2
  omega

end Cert.Proof.Layout

end
-- ==== Proof.Spec.lean ====
/-
Gated attention pooling written entry by entry: the hidden features, the attention scores, the pooled embedding, the
logits, their softmax and the index of the larger logit.
-/
module

public import proofs.«01_k».proof.Proof.Math
public import Idealize.ShloMosaic.Lib.ValueIdxCore

@[expose] public section

noncomputable section

namespace Cert.Proof.Spec

open Idealize.ShloMosaic Idealize.ShloMosaic.ValueIdx
open scoped BigOperators

/-- The eleven arguments. -/
structure Args where
  /-- The instances, one a row. -/
  h : FVec Ideal ⟨2, ![200000, 96]⟩ .f32
  /-- The first layer's weights. -/
  W : FVec Ideal ⟨2, ![96, 128]⟩ .f32
  /-- The first layer's bias. -/
  b : FVec Ideal ⟨1, ![128]⟩ .f32
  /-- The tanh gate's weights. -/
  Wa : FVec Ideal ⟨2, ![128, 128]⟩ .f32
  /-- The tanh gate's bias. -/
  ba : FVec Ideal ⟨1, ![128]⟩ .f32
  /-- The sigmoid gate's weights. -/
  Wb : FVec Ideal ⟨2, ![128, 128]⟩ .f32
  /-- The sigmoid gate's bias. -/
  bb : FVec Ideal ⟨1, ![128]⟩ .f32
  /-- The attention weights. -/
  Wc : FVec Ideal ⟨2, ![128, 1]⟩ .f32
  /-- The attention bias. -/
  bc : FVec Ideal ⟨1, ![1]⟩ .f32
  /-- The classifier's weights. -/
  Wcls : FVec Ideal ⟨2, ![128, 2]⟩ .f32
  /-- The classifier's bias. -/
  bcls : FVec Ideal ⟨1, ![2]⟩ .f32

variable (a : Args)

/-- Feature `d` of instance `j` after the first layer and its relu. -/
def hid (j : Fin 200000) (d : Fin 128) : EReal :=
  max ((∑ k : Fin 96, a.h (ix2 j k) * a.W (ix2 k d)) + a.b (ix1 d)) 0

/-- A gate's argument: an affine map of the features. -/
def affine (w : FVec Ideal ⟨2, ![128, 128]⟩ .f32) (b : FVec Ideal ⟨1, ![128]⟩ .f32) (x : Fin 128 → EReal) (e : Fin 128) : EReal :=
  (∑ d : Fin 128, x d * w (ix2 d e)) + b (ix1 e)

/-- The two gates' product at coordinate `e`, of one instance's features. -/
def gate (x : Fin 128 → EReal) (e : Fin 128) : EReal :=
  Ideal.tanh (affine a.Wa a.ba x e) * Ideal.div 1 (1 + Ideal.exp (-affine a.Wb a.bb x e))

/-- The attention score of an instance with features `x`. -/
def scoreOf (x : Fin 128 → EReal) : EReal :=
  (∑ e : Fin 128, gate a x e * a.Wc (ix2 e 0)) + a.bc (ix1 0)

/-- The attention score of instance `j`. -/
def sc (j : Fin 200000) : EReal := scoreOf a (hid a j)

/-- The pooled embedding, its softmax taken relative to the real level `M`. -/
def emb (M : ℝ) (d : Fin 128) : EReal :=
  ∑ j : Fin 200000, Ideal.div ((Real.exp ((sc a j).toReal - M) : ℝ) : EReal)
    (∑ i : Fin 200000, ((Real.exp ((sc a i).toReal - M) : ℝ) : EReal)) * hid a j d

/-- The two logits of an embedding. -/
def logit (e : Fin 128 → EReal) (c : Fin 2) : EReal := (∑ d : Fin 128, e d * a.Wcls (ix2 d c)) + a.bcls (ix1 c)

/-- The larger of the logits, as a fold from minus infinity. -/
def top (l : Fin 2 → EReal) : EReal := Finset.univ.fold max ⊥ l

/-- The softmax of the logits. -/
def prob (l : Fin 2 → EReal) (c : Fin 2) : EReal :=
  Ideal.div (Ideal.exp (l c - top l)) (∑ i : Fin 2, Ideal.exp (l i - top l))

/-- The index of the larger logit, the first where they are equal. -/
def hat (l : Fin 2 → EReal) : BitVec 32 := if l 0 < l 1 then 1#32 else 0#32

/-- The last attention layer's weights and bias are real numbers. -/
def Finite : Prop := (∀ e : Fin 128, ∃ r : ℝ, a.Wc (ix2 e 0) = (r : EReal)) ∧ ∃ r : ℝ, a.bc (ix1 0) = (r : EReal)

variable {a}

/-- Where the last attention layer is finite every score is a real number: both gates are bounded. -/
theorem scoreOf_real (ha : Finite a) (x : Fin 128 → EReal) : ∃ r : ℝ, scoreOf a x = (r : EReal) := by
  have hg : ∀ e, ∃ r : ℝ, gate a x e * a.Wc (ix2 e 0) = (r : EReal) := fun e => by
    obtain ⟨p, hp⟩ := Math.tanh_real (affine a.Wa a.ba x e)
    obtain ⟨q, hq⟩ := Math.sigmoid_real (affine a.Wb a.bb x e)
    obtain ⟨w, hw⟩ := ha.1 e
    exact ⟨p * q * w, by rw [gate, hp, hq, hw, EReal.coe_mul, EReal.coe_mul]⟩
  choose g hg using hg
  obtain ⟨b, hb⟩ := ha.2
  refine ⟨(∑ e, g e) + b, ?_⟩
  rw [scoreOf, hb, EReal.coe_add, Math.coe_sum]
  exact congrArg (· + (b : EReal)) (Finset.sum_congr rfl fun e _ => hg e)

/-- The score of instance `j` is the real number it is read as. -/
theorem sc_real (ha : Finite a) (j : Fin 200000) : sc a j = (((sc a j).toReal : ℝ) : EReal) := by
  obtain ⟨r, hr⟩ := scoreOf_real ha (hid a j)
  rw [sc, hr, EReal.toReal_coe]

end Cert.Proof.Spec

end
-- ==== Proof.Block.lean ====
/-
A block at an index: the features, the gates and the scores of its columns.
-/
module

public import proofs.«01_k».proof.Proof.Layout
public import proofs.«01_k».proof.Proof.Spec
public import proofs.«01_k».proof.Proof.Mask

@[expose] public section

set_option maxRecDepth 16384

noncomputable section

namespace Cert.Proof.K

open Cert.KernelIdeal Cert.KernelIdeal.Gen Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

open Cert.Proof.Index Cert.Proof.Layout Cert.Proof.Spec
open scoped BigOperators

variable (a : Args)

/-- A feature of an instance with inputs `g`: the first layer and its relu. -/
def hidOf (g : Fin 96 → EReal) (d : Fin 128) : EReal := max ((∑ k : Fin 96, g k * a.W (ix2 k d)) + a.b (ix1 d)) 0

/-- The five weight arrays the kernel is handed, read as the arguments they were assembled from. -/
structure Wts (w : Vec Ideal S128x104 .f32) (u : Vec Ideal S256x136 .f32) (v : Vec Ideal S1x128 .f32) (b : Vec Ideal S1x1 .f32) : Prop where
  /-- The first layer's weights with its bias. -/
  fc : ∀ d : Fin 128, BiasRow (n := 96) (fun k => w (ix2 d k)) (fun k => a.W (ix2 k d)) (a.b (ix1 d))
  /-- The tanh gate's weights with its bias. -/
  ga : ∀ e : Fin 128, BiasRow (n := 128) (fun k => u (ix2 (Fin.castAdd 128 e) k)) (fun k => a.Wa (ix2 k e)) (a.ba (ix1 e))
  /-- The sigmoid gate's weights with its bias, all halved. -/
  gb : ∀ e : Fin 128, BiasRow (n := 128) (fun k => u (ix2 (Fin.natAdd 128 e) k)) (fun k => a.Wb (ix2 k e) * Math.half) (a.bb (ix1 e) * Math.half)
  /-- The attention weights. -/
  at_w : ∀ e : Fin 128, v (ix2 0 e) = a.Wc (ix2 e 0)
  /-- The attention bias. -/
  at_b : b (ix2 0 0) = a.bc (ix1 0)

variable {a} {w : Vec Ideal S128x104 .f32} {u : Vec Ideal S256x136 .f32} {v : Vec Ideal S1x128 .f32} {b : Vec Ideal S1x1 .f32}

/-- A feature of the block: the first layer's relu of the masked column. -/
theorem pay10_at (h : Wts a w u v b) (i : grid0.Coords) (x : Vec Ideal S96x25088 .f32) (d : Fin 128) (j : Fin 25088) :
    k0_pay10 w (hAug i x) (ix2 d j) = hidOf a (fun k => k0_pay9 i x (ix2 k j)) d := by
  unfold k0_pay10
  simp only [shapeCast_self]
  rw [maximumf_apply, matmul_apply dot_S128x104_S104x25088_S128x25088_1_0_0_1_n_n rfl,
    show broadcast S128x25088 (Scalar.ofBits (F := Ideal) .f32 0x00000000#32) (ix2 d j) = (0 : EReal) from ofBits_zero]
  refine congrArg (max · (0 : EReal)) ((h.fc d).dot (fun k => hAug i x (ix2 k j)) _ (fun k => ?_) fun r => ?_)
  · exact put_top (n := 96) (k := 8) one (k0_pay9 i x) k j
  · exact (put_bottom (n := 96) (k := 8) one (k0_pay9 i x) r j).trans ofBits_one

/-- The gates' arguments: row `r` of the second weight matrix against the features and the ones under them. -/
theorem pay11_at (h : Wts a w u v b) (i : grid0.Coords) (x : Vec Ideal S96x25088 .f32) (e : Fin 256) (j : Fin 25088)
    {p : Fin 128 → EReal} {β : EReal} (hp : BiasRow (n := 128) (fun k => u (ix2 e k)) p β) :
    k0_pay11 u (xAug i x w) (ix2 e j) = (∑ k, k0_pay10 w (hAug i x) (ix2 k j) * p k) + β := by
  unfold k0_pay11
  simp only [shapeCast_self]
  rw [matmul_apply dot_S256x136_S136x25088_S256x25088_1_0_0_1_n_n rfl]
  refine hp.dot (fun k => xAug i x w (ix2 k j)) _ (fun k => ?_) fun r => ?_
  · exact put_top (n := 128) (k := 8) one (k0_pay10 w (hAug i x)) k j
  · exact (put_bottom (n := 128) (k := 8) one (k0_pay10 w (hAug i x)) r j).trans ofBits_one

/-- The features of column `j` of the block. -/
abbrev colOf (i : grid0.Coords) (x : Vec Ideal S96x25088 .f32) (w : Vec Ideal S128x104 .f32) (j : Fin 25088) (d : Fin 128) : EReal :=
  k0_pay10 w (hAug i x) (ix2 d j)

/-- The tanh gate of column `j`. -/
theorem tA_at (h : Wts a w u v b) (i : grid0.Coords) (x : Vec Ideal S96x25088 .f32) (e : Fin 128) (j : Fin 25088) :
    tA i x w u (ix2 e j) = Ideal.tanh (affine a.Wa a.ba (colOf i x w j) e) := by
  unfold tA k0_pay12
  refine congrArg Ideal.tanh ?_
  refine (slice2_axis0_apply 0 _ _ e j (Fin.castAdd 128 e) (Nat.zero_add _).symm).trans ?_
  exact pay11_at h i x _ j (h.ga e)

/-- The tanh inside the sigmoid gate of column `j`. -/
theorem tB_at (h : Wts a w u v b) (i : grid0.Coords) (x : Vec Ideal S96x25088 .f32) (e : Fin 128) (j : Fin 25088) :
    tB i x w u (ix2 e j) = Ideal.tanh (Math.half * affine a.Wb a.bb (colOf i x w j) e) := by
  unfold tB k0_pay13
  refine congrArg Ideal.tanh ?_
  refine (slice2_axis0_apply 128 _ _ e j (Fin.natAdd 128 e) rfl).trans ?_
  refine (pay11_at h i x _ j (h.gb e)).trans ?_
  unfold Spec.affine
  rw [EReal.left_distrib_of_nonneg_of_ne_top (by exact_mod_cast (by norm_num : (0 : ℝ) ≤ 1 / 2)) (EReal.coe_ne_top _),
    Math.mul_sum _ (by norm_num)]
  refine congrArg₂ (· + ·) (Finset.sum_congr rfl fun k _ => ?_) (mul_comm _ _)
  rw [← mul_assoc, mul_comm _ Math.half]

/-- The two gates' product of column `j`. -/
theorem gate_at (h : Wts a w u v b) (i : grid0.Coords) (x : Vec Ideal S96x25088 .f32) (e : Fin 128) (j : Fin 25088) :
    tA i x w u (ix2 e j) * (Math.half * tB i x w u (ix2 e j) + Math.half) = gate a (colOf i x w j) e := by
  rw [tA_at h, tB_at h, Math.sigmoid_eq]; rfl

/-- The score of column `j`. -/
theorem score_at (h : Wts a w u v b) (i : grid0.Coords) (x : Vec Ideal S96x25088 .f32) (j : Fin 25088) :
    score i x w u v b (ix2 0 j) = scoreOf a (colOf i x w j) := by
  unfold score k0_pay14
  simp only [shapeCast_self]
  rw [addf_apply, matmul_apply dot_S1x128_S128x25088_S1x25088_1_0_0_1_n_n rfl]
  refine congrArg₂ (· + ·) (Finset.sum_congr rfl fun e _ => ?_) ?_
  · rw [h.at_w, mul_comm]
    refine congrArg (· * _) ?_
    rw [← gate_at h i x e j]
    rw [mulf_apply, addf_apply, mulf_apply]
    rw [show broadcast S128x25088 (Scalar.ofBits (F := Ideal) .f32 0x3F000000#32) (ix2 e j) = Math.half from ofBits_half]
  · refine (broadcastTo_apply _ _ _ (ix2 0 0) fun c => ?_).trans h.at_b
    match c with | ⟨0, _⟩ => rfl | ⟨1, _⟩ => rfl

end Cert.Proof.K

end
-- ==== Proof.Carry.lean ====
/-
What one point does to the carried state: the running softmax takes in the point's instances.
-/
module

public import proofs.«01_k».proof.Proof.Block

@[expose] public section

set_option maxRecDepth 16384

noncomputable section

namespace Cert.Proof.K

open Cert.KernelIdeal Cert.KernelIdeal.Gen Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

open Cert.Proof.Index Cert.Proof.Layout Cert.Proof.Spec
open scoped BigOperators

/-- The one entry of a one-entry array, extracted under two further unit axes. -/
theorem extract_one {α : Type} (x : S1.Idx → α) : extractAt ![0, 0, 0] (shapeCast S1x1x1 x shapeCasts_S1_S1x1x1) inpos_S1x1x1_p0_0_0 = x (ix1 0) := by
  unfold extractAt shapeCast
  refine congrArg x ?_
  generalize (Shape.reshapeEquiv _ _ : S1.Idx) = y
  rw [eq_ix1 y]; exact congrArg ix1 (Subsingleton.elim (α := Fin 1) _ _)

section Payload
variable (v7 : IVec S1x25088 1) (A B : FVec Ideal S128x25088 .f32) (v : Vec Ideal S1x128 .f32) (b : Vec Ideal S1x1 .f32) (mx sm : EReal)

/-- The new level: the greatest of the old one and the scores of the columns the mask keeps. -/
theorem pay15_at : k0_pay15 (F := Ideal) v7 A B v b mx
    = max mx (Finset.univ.fold max ⊥ fun j : Fin 25088 => if v7 (ix2 0 j) = 1#1 then k0_pay14 A B v b (ix2 0 j) else (⊥ : EReal)) := by
  unfold k0_pay15
  refine congrArg (max mx) ((extract_one _).trans ((max_apply (n := 25088) _ _ _ _ _ _).trans ?_))
  refine congrArg (Finset.univ.fold max ⊥) (funext fun j => ?_)
  rw [select_apply, show broadcast S1x25088 (Scalar.ofBits (F := Ideal) .f32 0xFF800000#32) (ix2 0 j) = (⊥ : EReal) from ofBits_bot]
  rfl

/-- The weight of a column: its exponential where the mask keeps it, zero elsewhere. -/
theorem pay16_at (j : Fin 25088) : k0_pay16 (F := Ideal) v7 A B v b mx (ix2 0 j)
    = if v7 (ix2 0 j) = 1#1 then Ideal.exp (k0_pay14 A B v b (ix2 0 j) - k0_pay15 v7 A B v b mx) else (0 : EReal) := by
  unfold k0_pay16
  rw [select_apply, show broadcast S1x25088 (Scalar.ofBits (F := Ideal) .f32 0x00000000#32) (ix2 0 j) = (0 : EReal) from ofBits_zero]
  rfl

/-- The factor a change of level brings. -/
theorem pay17_at : k0_pay17 (F := Ideal) v7 A B v b mx = Ideal.exp (mx - k0_pay15 v7 A B v b mx) := rfl

/-- The new sum of weights. -/
theorem pay18_at : k0_pay18 (F := Ideal) v7 A B v b mx sm
    = sm * Ideal.exp (mx - k0_pay15 v7 A B v b mx) + ∑ j : Fin 25088, k0_pay16 (F := Ideal) v7 A B v b mx (ix2 0 j) := by
  unfold k0_pay18
  exact congrArg (sm * Ideal.exp (mx - k0_pay15 v7 A B v b mx) + ·) ((extract_one _).trans (sum_apply (n := 25088) _ _ _ _ _ _))

/-- The new weighted sum of features. -/
theorem pay1_at (p : FVec Ideal S1x25088 .f32) (y : EReal) (X : Vec Ideal S128x25088 .f32) (acc : Vec Ideal S1x128 .f32) (d : Fin 128) :
    k0_pay1 (F := Ideal) p y X acc (ix2 0 d) = acc (ix2 0 d) * y + ∑ j : Fin 25088, p (ix2 0 j) * X (ix2 d j) := by
  unfold k0_pay1
  simp only [shapeCast_self]
  rw [addf_apply, matmulT_apply dot_S1x25088_S128x25088_S1x128_1_1_0_0_n_n rfl, mulf_apply]
  rfl

end Payload

variable (a : Args)

/-- The score of instance `j` as a real number, for every natural number `j`. -/
def zs (j : ℕ) : ℝ := if h : j < 200000 then (sc a ⟨j, h⟩).toReal else 0
/-- The features of instance `j`, for every natural number `j`. -/
def xs (j : ℕ) (d : Fin 128) : EReal := if h : j < 200000 then hid a ⟨j, h⟩ d else 0

variable {a} {w : Vec Ideal S128x104 .f32} {u : Vec Ideal S256x136 .f32} {v : Vec Ideal S1x128 .f32} {b : Vec Ideal S1x1 .f32}
  {i : grid0.Coords} {x : Vec Ideal S96x25088 .f32}

/-- The masked block of point `i` holds the instances of its columns inside the array. -/
def Holds (a : Args) (i : grid0.Coords) (x : Vec Ideal S96x25088 .f32) : Prop :=
  ∀ (j : Fin 25088) (h : (i 0).val * 25088 + j.val < 200000) (k : Fin 96), k0_pay9 i x (ix2 k j) = a.h (ix2 ⟨_, h⟩ k)

/-- A column inside the array holds its instance's features … -/
theorem col_eq (h : Wts a w u v b) (hx : Holds a i x) (j : Fin 25088) (hj : (i 0).val * 25088 + j.val < 200000) :
    colOf i x w j = hid a ⟨_, hj⟩ := by
  funext d
  refine (pay10_at h i x d j).trans ?_
  rw [show (fun k => k0_pay9 i x (ix2 k j)) = fun k => a.h (ix2 ⟨_, hj⟩ k) from funext (hx j hj)]
  rfl

/-- … and its score is its instance's. -/
theorem score_eq (h : Wts a w u v b) (hx : Holds a i x) (j : Fin 25088) (hj : (i 0).val * 25088 + j.val < 200000) :
    score i x w u v b (ix2 0 j) = sc a ⟨_, hj⟩ := by
  rw [score_at h, col_eq h hx j hj]; rfl

/-- One point's step: what is carried comes to hold the point's instances too. -/
theorem next_at (h : Wts a w u v b) (hf : Finite a) (hx : Holds a i x) (hi : (i 0).val * 25088 < 200000) {st : St Ideal}
    (hr : Math.Ready (zs a) (xs a) 200000 ((i 0).val * 25088) st.mx st.sm fun d => st.acc (ix2 0 d)) :
    ∃ μ : ℝ, Math.At (zs a) (xs a) 200000 ((i 0).val * 25088 + 25088) μ (St.next i x w u v b st).mx (St.next i x w u v b st).sm
      fun d => (St.next i x w u v b st).acc (ix2 0 d) := by
  have hin : ∀ j : Fin 25088, k0_pay8 i (ix2 0 j) = 1#1 ↔ (i 0).val * 25088 + j.val < 200000 := fun j => pay8_iff i (ix2 0 j)
  have h0 : (i 0).val * 25088 + (0 : Fin (25087 + 1)).val < 200000 := by rw [Fin.val_zero, Nat.add_zero]; exact hi
  have hreal : ∃ μ : ℝ, (St.next i x w u v b st).mx = (μ : EReal) := by
    obtain ⟨r, hr'⟩ := Math.fold_max_real Finset.univ
      (fun j : Fin 25088 => if k0_pay8 i (ix2 0 j) = 1#1 then score i x w u v b (ix2 0 j) else (⊥ : EReal)) ⊥ bot_ne_top
      (fun j _ => by
        split
        · rename_i hj
          rw [score_eq h hx j ((hin j).1 hj), sc_real hf]; exact EReal.coe_ne_top _
        · exact bot_ne_top)
      (0 : Fin (25087 + 1)) (Finset.mem_univ _) (by
        rw [if_pos ((hin _).2 h0), score_eq h hx _ h0, sc_real hf]; exact EReal.coe_ne_bot _)
    refine ⟨(max st.mx (r : EReal)).toReal, ?_⟩
    have e : (St.next i x w u v b st).mx = max st.mx (r : EReal) := (pay15_at _ _ _ _ _ _).trans (congrArg (max st.mx) hr')
    rw [e]
    refine (EReal.coe_toReal (lt_top_iff_ne_top.1 (max_lt (lt_top_iff_ne_top.2 hr.1) (EReal.coe_lt_top r))) ?_).symm
    exact bot_lt_iff_ne_bot.1 (lt_of_lt_of_le (EReal.bot_lt_coe r) (le_max_right _ _))
  obtain ⟨μ, hμ⟩ := hreal
  have hw : ∀ j : Fin 25088, k0_pay16 (F := Ideal) (k0_pay8 i) (tA i x w u) (tB i x w u) v b st.mx (ix2 0 j)
      = ((Math.wt (zs a) 200000 μ ((i 0).val * 25088 + j.val) : ℝ) : EReal) := fun j => by
    rw [pay16_at]
    unfold Math.wt
    by_cases hj : (i 0).val * 25088 + j.val < 200000
    · rw [if_pos ((hin j).2 hj), if_pos hj]
      refine (congrArg₂ (fun p q : EReal => Ideal.exp (p - q)) ((score_eq h hx j hj).trans (sc_real hf _)) hμ).trans ?_
      rw [Math.exp_coe_sub]
      unfold zs; rw [dif_pos hj]
    · rw [if_neg fun hm => hj ((hin j).1 hm), if_neg hj]; rfl
  refine ⟨μ, Math.Ready.step _ _ _ hr μ hμ ?_ fun d => ?_⟩
  · refine (pay18_at _ _ _ _ _ _ _).trans ?_
    rw [Finset.sum_range]
    exact congrArg₂ (fun p q : EReal => st.sm * Ideal.exp (st.mx - p) + q) hμ (Finset.sum_congr rfl fun j _ => hw j)
  · refine (pay1_at _ _ _ _ d).trans ?_
    rw [Finset.sum_range, pay17_at]
    refine congrArg₂ (fun p q : EReal => st.acc (ix2 0 d) * Ideal.exp (st.mx - p) + q) hμ (Finset.sum_congr rfl fun j _ => ?_)
    rw [hw j]
    by_cases hj : (i 0).val * 25088 + j.val < 200000
    · refine congrArg (_ * ·) ?_
      unfold xs; rw [dif_pos hj]
      exact congrFun (col_eq h hx j hj) d
    · unfold Math.wt; rw [if_neg hj, EReal.coe_zero, zero_mul, zero_mul]

end Cert.Proof.K

end
-- ==== Proof.Inputs.lean ====
/-
What the body reads at each point, in terms of the arguments, and what it carries from point to point.
-/
module

public import proofs.«01_k».proof.Proof.HostVal
public import proofs.«01_k».proof.Proof.Carry
public import Idealize.ShloMosaic.Lib.Pipeline.ValueKit.Geometry

@[expose] public section

set_option maxRecDepth 16384

noncomputable section

namespace Cert.Proof.K

open Cert.KernelIdeal Cert.KernelIdeal.Gen Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

open Cert.Proof.Index Cert.Proof.Layout Cert.Proof.Spec

section Blocks
variable (m : (ℓ : Loc nD τ sig) → Buf (Elt F) ℓ) (c : Dev nD)

/-- A window whose block is its whole array hands the body that array at every point: the first layer's weights, … -/
theorem iblk_1 (t : Fin cfg0.N) : iblk m c 1 t = V m c main_call0_v3 := by
  have hz : (fun a => win0_1.index t a * main_call0_v3.ty.shape.size a) = fun _ => 0 := funext fun a => by fin_cases a <;> exact Nat.zero_mul _
  exact Memref.read_access_unit_zero (Elt F) main_call0_v3 hz (fun a => by rw [congrFun hz a]; simp) (V m c main_call0_v3)
/-- … the gates' weights, … -/
theorem iblk_2 (t : Fin cfg0.N) : iblk m c 2 t = V m c main_call0_v13 := by
  have hz : (fun a => win0_2.index t a * main_call0_v13.ty.shape.size a) = fun _ => 0 := funext fun a => by fin_cases a <;> exact Nat.zero_mul _
  exact Memref.read_access_unit_zero (Elt F) main_call0_v13 hz (fun a => by rw [congrFun hz a]; simp) (V m c main_call0_v13)
/-- … the attention weights … -/
theorem iblk_3 (t : Fin cfg0.N) : iblk m c 3 t = V m c main_call0_v15 := by
  have hz : (fun a => win0_3.index t a * main_call0_v15.ty.shape.size a) = fun _ => 0 := funext fun a => by fin_cases a <;> exact Nat.zero_mul _
  exact Memref.read_access_unit_zero (Elt F) main_call0_v15 hz (fun a => by rw [congrFun hz a]; simp) (V m c main_call0_v15)
/-- … and bias, … -/
theorem iblk_4 (t : Fin cfg0.N) : iblk m c 4 t = V m c main_call0_v16 := by
  have hz : (fun a => win0_4.index t a * main_call0_v16.ty.shape.size a) = fun _ => 0 := funext fun a => by fin_cases a <;> exact Nat.zero_mul _
  exact Memref.read_access_unit_zero (Elt F) main_call0_v16 hz (fun a => by rw [congrFun hz a]; simp) (V m c main_call0_v16)
/-- … the classifier's weights … -/
theorem iblk_5 (t : Fin cfg0.N) : iblk m c 5 t = V m c main_arg9 := by
  have hz : (fun a => win0_5.index t a * main_arg9.ty.shape.size a) = fun _ => 0 := funext fun a => by fin_cases a <;> exact Nat.zero_mul _
  exact Memref.read_access_unit_zero (Elt F) main_arg9 hz (fun a => by rw [congrFun hz a]; simp) (V m c main_arg9)
/-- … and bias. -/
theorem iblk_6 (t : Fin cfg0.N) : iblk m c 6 t = V m c main_call0_v17 := by
  have hz : (fun a => win0_6.index t a * main_call0_v17.ty.shape.size a) = fun _ => 0 := funext fun a => by fin_cases a <;> exact Nat.zero_mul _
  exact Memref.read_access_unit_zero (Elt F) main_call0_v17 hz (fun a => by rw [congrFun hz a]; simp) (V m c main_call0_v17)

/-- Where the instance window's block sits at point `t`. -/
theorem index_0 (t : Fin cfg0.N) : win0_0.index t 0 = 0 ∧ win0_0.index t 1 = t.val := by
  rcases fin_N0 t with rfl | rfl | rfl | rfl | rfl | rfl | rfl | rfl <;> exact ⟨rfl, rfl⟩

/-- A column of point `t`'s block inside the array holds that instance. -/
theorem hx_at (t : Fin cfg0.N) (k : Fin 96) (j : Fin 25088) (h : t.val * 25088 + j.val < 200000) :
    hx m c t (ix2 k j) = m ((c.tc : Thread nD τ).loc main_arg0) (ix2 ⟨t.val * 25088 + j.val, h⟩ k) := by
  have e : hx m c t (ix2 k j) = V m c main_call0_v14 (ix2 k ⟨t.val * 25088 + j.val, h⟩) := by
    unfold hx Window.fill
    rw [dif_pos (moved_of t (ix2 k j) h)]
    unfold iblk
    rw [View.read_apply]
    refine congrArg (V m c main_call0_v14) (funext fun a => Fin.ext ?_)
    blk_simp
    match a with
    | ⟨0, _⟩ =>
      show win0_0.index t 0 * 96 + k.val = k.val
      rw [(index_0 t).1, Nat.zero_mul, Nat.zero_add]
    | ⟨1, _⟩ =>
      show win0_0.index t 1 * 25088 + j.val = t.val * 25088 + j.val
      rw [(index_0 t).2]
  rw [e, V_v14]
  exact transpose_ix2_apply _ _ k _

end Blocks

section Values
variable (m : (ℓ : Loc nD τ sig) → Buf (Elt Ideal) ℓ) (c : Dev nD)

/-- The eleven arguments the program is launched with. -/
def argsOf : Args where
  h := m ((c.tc : Thread nD τ).loc main_arg0)
  W := m ((c.tc : Thread nD τ).loc main_arg1)
  b := m ((c.tc : Thread nD τ).loc main_arg2)
  Wa := m ((c.tc : Thread nD τ).loc main_arg3)
  ba := m ((c.tc : Thread nD τ).loc main_arg4)
  Wb := m ((c.tc : Thread nD τ).loc main_arg5)
  bb := m ((c.tc : Thread nD τ).loc main_arg6)
  Wc := m ((c.tc : Thread nD τ).loc main_arg7)
  bc := m ((c.tc : Thread nD τ).loc main_arg8)
  Wcls := m ((c.tc : Thread nD τ).loc main_arg9)
  bcls := m ((c.tc : Thread nD τ).loc main_arg10)

/-- What the body finds in the five weight windows at any point are the arguments' weights and biases. -/
theorem wts (t : Fin cfg0.N) : Wts (argsOf m c) (wfc m c t) (wab m c t) (wat m c t) (bat m c t) where
  fc d := by
    unfold wfc; rw [iblk_1, V_v3]
    refine (biasRow_cat3 _ _ _ concatenates_S128x96_S128x1_S128x7_S128x104_d1 d fun k => ?_).congr (fun k => ?_) ?_
    · exact (splat_apply _ _ _).trans ofBits_zero
    · exact transpose_ix2_apply _ _ d k
    · exact shapeCast_a_a1_apply _ _ d 0
  ga e := by
    unfold wab; rw [iblk_2, V_v13]
    refine (biasRow_cat3 _ _ _ concatenates_S256x128_S256x1_S256x7_S256x136_d1 _ fun k => ?_).congr (fun k => ?_) ?_
    · exact (splat_apply _ _ _).trans ofBits_zero
    · refine (transpose_ix2_apply _ _ _ k).trans (concatenate_pair_apply_left (s₁ := S128x128) (s₂ := S128x128) (t := S128x256) 1 _ _ _ _ rfl (ix2 k e) fun b => ?_)
      match b with | ⟨0, _⟩ => rfl | ⟨1, _⟩ => rfl
    · refine (shapeCast_a_a1_apply _ _ _ 0).trans (concatenate_pair_apply_left (s₁ := S128) (s₂ := S128) (t := S256) 0 _ _ _ _ rfl (ix1 e) fun b => ?_)
      match b with | ⟨0, _⟩ => rfl
  gb e := by
    unfold wab; rw [iblk_2, V_v13]
    refine (biasRow_cat3 _ _ _ concatenates_S256x128_S256x1_S256x7_S256x136_d1 _ fun k => ?_).congr (fun k => ?_) ?_
    · exact (splat_apply _ _ _).trans ofBits_zero
    · refine (transpose_ix2_apply _ _ _ k).trans ((concatenate_pair_apply_right (s₁ := S128x128) (s₂ := S128x128) (t := S128x256) 1 _ _ _ _ rfl rfl (ix2 k e) (fun b hb => ?_) ?_).trans ?_)
      · match b with | ⟨0, _⟩ => rfl | ⟨1, _⟩ => exact absurd rfl hb
      · exact Nat.add_comm _ _
      · exact congrArg (fun q : EReal => (argsOf m c).Wb (ix2 k e) * q) ((splat_apply _ _ _).trans ofBits_half)
    · refine (shapeCast_a_a1_apply _ _ _ 0).trans ((concatenate_pair_apply_right (s₁ := S128) (s₂ := S128) (t := S256) 0 _ _ _ _ rfl rfl (ix1 e) (fun b hb => ?_) ?_).trans ?_)
      · match b with | ⟨0, _⟩ => exact absurd rfl hb
      · exact Nat.add_comm _ _
      · exact congrArg (fun q : EReal => (argsOf m c).bb (ix1 e) * q) ((splat_apply _ _ _).trans ofBits_half)
  at_w e := by
    unfold wat; rw [iblk_3, V_v15]
    refine shapeCast_apply _ _ _ (ix2 e 0) ?_
    rw [Shape.rowMajor_val_two, Shape.rowMajor_val_two]
    show e.val * 1 + 0 = 0 * 128 + e.val
    omega
  at_b := by
    unfold bat; rw [iblk_4, V_v16]
    exact shapeCast_a_1a_apply _ _ 0 0

/-- The masked block of point `t` holds its instances. -/
theorem holds (t : Fin cfg0.N) : Holds (argsOf m c) (cfg0.grid.coords t) (hx m c t) := by
  intro j h k
  have ht : t.val * 25088 + j.val < 200000 := by rwa [coords_val t] at h
  unfold k0_pay9
  simp only [shapeCast_self]
  simp only [select, broadcastTo_1b_ab_apply]
  rw [(pay8_iff (cfg0.grid.coords t) (ix2 0 j)).mpr h]
  refine (hx_at m c t k j ht).trans ?_
  have key : ∀ (n : ℕ) (hn : n * 25088 + j.val < 200000), n = t.val →
      (argsOf m c).h (ix2 ⟨t.val * 25088 + j.val, ht⟩ k) = (argsOf m c).h (ix2 ⟨n * 25088 + j.val, hn⟩ k) := by
    rintro n hn rfl; rfl
  exact key _ h (coords_val t)

/-- The point's step, of what is carried between points. -/
theorem carried_step (hf : Finite (argsOf m c)) (t : Fin cfg0.N)
    (hr : Math.Ready (zs (argsOf m c)) (xs (argsOf m c)) 200000 (t.val * 25088) (stAt m c t.val).mx (stAt m c t.val).sm
      fun d => (stAt m c t.val).acc (ix2 0 d)) :
    ∃ μ : ℝ, Math.At (zs (argsOf m c)) (xs (argsOf m c)) 200000 (t.val * 25088 + 25088) μ (stAt m c (t.val + 1)).mx (stAt m c (t.val + 1)).sm
      fun d => (stAt m c (t.val + 1)).acc (ix2 0 d) := by
  rw [stAt_succ]
  have ht : t.val < 8 := t.isLt
  have := next_at (wts m c t) hf (holds m c t) (by rw [coords_val t]; omega) (by rw [coords_val t]; exact hr)
  rwa [coords_val t] at this

/-- What is carried before point `n`: the running softmax of the first `25088 n` instances. -/
theorem carried (hf : Finite (argsOf m c)) : ∀ n ≤ 8, Math.Ready (zs (argsOf m c)) (xs (argsOf m c)) 200000 (n * 25088)
    (stAt m c n).mx (stAt m c n).sm fun d => (stAt m c n).acc (ix2 0 d)
  | 0, _ => by
    have h0 := Math.ready_init (zs (argsOf m c)) (xs (argsOf m c)) 200000
    rw [Nat.zero_mul]
    have e : (fun d : Fin 128 => (stAt m c 0).acc (ix2 0 d)) = fun _ => (0 : EReal) := funext fun d => by
      show k0_pay7 (F := Ideal) (ix2 0 d) = _
      unfold k0_pay7
      simp only [shapeCast_self]
      exact ofBits_zero
    rw [e, show (stAt m c 0).mx = (⊥ : EReal) from ofBits_bot, show (stAt m c 0).sm = (0 : EReal) from ofBits_zero]
    exact h0
  | n + 1, hn => by
    obtain ⟨μ, h⟩ := carried_step m c hf ⟨n, hn⟩ (carried hf n (Nat.le_of_succ_le hn))
    rw [Nat.succ_mul]
    exact Math.At.ready _ _ _ h

/-- What is carried after the last point: the running softmax of all instances. -/
theorem carried_last (hf : Finite (argsOf m c)) (t : Fin cfg0.N) (ht : t.val = 7) :
    ∃ μ : ℝ, Math.At (zs (argsOf m c)) (xs (argsOf m c)) 200000 200704 μ (stAt m c (t.val + 1)).mx (stAt m c (t.val + 1)).sm
      fun d => (stAt m c (t.val + 1)).acc (ix2 0 d) := by
  have := carried_step m c hf t (carried m c hf t.val (by omega))
  rwa [show t.val * 25088 + 25088 = 200704 by omega] at this

/-- The quotient the last point forms is the pooled embedding, whatever the level of its softmax. -/
theorem pooled_eq (hf : Finite (argsOf m c)) (t : Fin cfg0.N) (ht : t.val = 7) (M : ℝ) (d : Fin 128) :
    Ideal.div ((stAt m c (t.val + 1)).acc (ix2 0 d)) (stAt m c (t.val + 1)).sm = emb (argsOf m c) M d := by
  obtain ⟨μ, h⟩ := carried_last m c hf t ht
  refine (Math.At.quotient _ _ _ (by norm_num) (by norm_num) h M d).trans ?_
  have hz : ∀ j : Fin 200000, zs (argsOf m c) j.val = (sc (argsOf m c) j).toReal := fun j => by unfold zs; rw [dif_pos j.isLt]
  have hX : ∀ j : Fin 200000, xs (argsOf m c) j.val d = hid (argsOf m c) j d := fun j => by unfold xs; rw [dif_pos j.isLt]
  simp only [hz, hX]
  rfl

/-- The scores point `t` leaves, at a column inside the array. -/
theorem scoreAt_eq (t : Fin cfg0.N) (j : Fin 25088) (h : t.val * 25088 + j.val < 200000) :
    scoreAt m c t (ix2 0 j) = sc (argsOf m c) ⟨t.val * 25088 + j.val, h⟩ := by
  have key : ∀ (n : ℕ) (hn : n * 25088 + j.val < 200000), n = t.val →
      sc (argsOf m c) ⟨n * 25088 + j.val, hn⟩ = sc (argsOf m c) ⟨t.val * 25088 + j.val, h⟩ := by
    rintro n hn rfl; rfl
  exact (score_eq (wts m c t) (holds m c t) j (by rwa [coords_val t])).trans (key _ _ (coords_val t))

end Values

end Cert.Proof.K

end
-- ==== Proof.Result.lean ====
/-
What the region leaves in the four result arrays, entry by entry.
-/
module

public import proofs.«01_k».proof.Proof.Inputs

@[expose] public section

set_option maxRecDepth 16384

noncomputable section

namespace Cert.Proof.K

open Cert.KernelIdeal Cert.KernelIdeal.Gen Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

open Cert.Proof.Index Cert.Proof.Layout Cert.Proof.Spec
open scoped BigOperators

section Last
variable (acc : Vec Ideal S1x128 .f32) (s : EReal) (w : Vec Ideal S128x2 .f32) (b : Vec Ideal S1x2 .f32)

/-- The two logits the last point forms. -/
theorem pay2_at (k : Fin 2) : k0_pay2 (F := Ideal) acc s w b (ix2 0 k)
    = (∑ d : Fin 128, Ideal.div (acc (ix2 0 d)) s * w (ix2 d k)) + b (ix2 0 k) := by
  unfold k0_pay2
  simp only [shapeCast_self]
  rw [addf_apply, matmul_apply dot_S1x128_S128x2_S1x2_1_0_0_1_n_n rfl]
  rfl

/-- The softmax of the logits. -/
theorem pay3_at (k : Fin 2) : k0_pay3 (F := Ideal) acc s w b (ix2 0 k) = prob (fun i => k0_pay2 (F := Ideal) acc s w b (ix2 0 i)) k := by
  unfold k0_pay3
  have hm := max_apply (n := 2) shapeCasts_S1x2_S1x1x2 reduces_S1x1x2_S1 (.inl rfl) rfl (k0_pay2 (F := Ideal) acc s w b) (ix1 0)
  have he : ∀ y : EReal, y = top (fun i => k0_pay2 (F := Ideal) acc s w b (ix2 0 i)) → ∀ k : Fin 2,
      exp (subf (k0_pay2 (F := Ideal) acc s w b) (broadcast S1x2 y : FVec Ideal S1x2 .f32)) (ix2 0 k)
      = Ideal.exp (k0_pay2 (F := Ideal) acc s w b (ix2 0 k) - top (fun i => k0_pay2 (F := Ideal) acc s w b (ix2 0 i))) := by
    rintro y rfl k; rfl
  refine congrArg₂ Ideal.div (he _ ((extract_one _).trans hm) k) ?_
  refine (extract_one _).trans ((sum_apply (n := 2) _ _ _ _ _ _).trans (Finset.sum_congr rfl fun i _ => ?_))
  exact he _ ((extract_one _).trans hm) i

/-- The index of the larger logit. -/
theorem pay4_at : k0_pay4 (F := Ideal) acc s w b (ix2 0 0) = hat fun i => k0_pay2 (F := Ideal) acc s w b (ix2 0 i) := by
  unfold k0_pay4
  rw [select_apply, cmpf_apply, slice2_axis1_apply 1 _ _ 0 0 1 rfl, slice2_axis1_apply 0 _ _ 0 0 0 rfl]
  unfold hat
  show (if Ideal.cmp .ogt _ _ = 1#1 then _ else _) = _
  unfold Ideal.cmp
  by_cases h : k0_pay2 (F := Ideal) acc s w b (ix2 0 0) < k0_pay2 (F := Ideal) acc s w b (ix2 0 1)
  · simp [h]; rfl
  · simp [h]; rfl

end Last

section Arrays
variable (m : (ℓ : Loc nD τ sig) → Buf (Elt Ideal) ℓ) (c : Dev nD)

/-- The last point. -/
abbrev tl : Fin cfg0.N := ⟨7, by decide⟩

/-- What point `t` leaves in the prediction's window. -/
theorem after_10 (t : Fin cfg0.N) : (dats m 0 c).after 10 t
    = k0_pay4 (stAt m c (t.val + 1)).acc (stAt m c (t.val + 1)).sm (wcl m c t) (bcl m c t) := rfl

/-- The logits as the region leaves them. -/
theorem final_8 : (dats m 0 c).arrAt 8 cfg0.N = k0_pay2 (stAt m c 8).acc (stAt m c 8).sm (wcl m c tl) (bcl m c tl) :=
  (dats m 0 c).arrAt_eq_of_after_last 8 tl (by decide +kernel) _ fun j => rfl
/-- Their softmax as the region leaves it. -/
theorem final_9 : (dats m 0 c).arrAt 9 cfg0.N = k0_pay3 (stAt m c 8).acc (stAt m c 8).sm (wcl m c tl) (bcl m c tl) :=
  (dats m 0 c).arrAt_eq_of_after_last 9 tl (by decide +kernel) _ fun j => rfl
/-- The prediction as the region leaves it. -/
theorem final_10 : (dats m 0 c).arrAt 10 cfg0.N = k0_pay4 (stAt m c 8).acc (stAt m c 8).sm (wcl m c tl) (bcl m c tl) :=
  (dats m 0 c).arrAt_eq_of_after_last 10 tl (by decide +kernel) _ fun j => by
    blk_simp
    exact congrFun (after_10 m c tl) j

/-- Where the score window's block sits at point `t`. -/
theorem index_7 (t : Fin cfg0.N) : win0_7.index t 0 = 0 ∧ win0_7.index t 1 = t.val := by
  rcases fin_N0 t with rfl | rfl | rfl | rfl | rfl | rfl | rfl | rfl <;> exact ⟨rfl, rfl⟩

/-- The scores as the region leaves them, at every instance. -/
theorem final_7 (i : S1x200704.Idx) (h : (i 1).val < 200000) : (dats m 0 c).arrAt 7 cfg0.N i = sc (argsOf m c) ⟨(i 1).val, h⟩ := by
  have key := (dats m 0 c).arrAt_forall_of_covers 7 (fun i v => ∀ h : (i 1).val < 200000, v = sc (argsOf m c) ⟨(i 1).val, h⟩)
    (by decide +kernel) (fun t hf y h => ?_) i
  · exact key h
  blk_simp at h ⊢
  have hy : (y : S1x25088.Idx) = ix2 0 (y 1) := eq_row (n := 25088) y
  have ht : t.val * 25088 + (y 1).val < 200000 := by rwa [(index_7 t).2] at h
  have idx : ∀ (n : ℕ) (hn : n * 25088 + (y 1).val < 200000), n = t.val →
      sc (argsOf m c) ⟨t.val * 25088 + (y 1).val, ht⟩ = sc (argsOf m c) ⟨n * 25088 + (y 1).val, hn⟩ := by
    rintro n hn rfl; rfl
  exact ((congrArg (scoreAt m c t) hy).trans (scoreAt_eq m c t (y 1) ht)).trans (idx _ h (index_7 t).2)

/-- The logits, written entry by entry: the level of the pooling's softmax does not matter. -/
theorem logits_eq (hf : Finite (argsOf m c)) (M : ℝ) (k : Fin 2) :
    k0_pay2 (stAt m c 8).acc (stAt m c 8).sm (wcl m c tl) (bcl m c tl) (ix2 0 k) = logit (argsOf m c) (emb (argsOf m c) M) k := by
  have hw : wcl m c tl = (argsOf m c).Wcls := (iblk_5 m c tl).trans (V_arg9 m c)
  have hb : bcl m c tl (ix2 0 k) = (argsOf m c).bcls (ix1 k) := by
    unfold bcl; rw [iblk_6, V_v17]
    exact shapeCast_a_1a_apply _ _ 0 k
  refine (pay2_at _ _ _ _ k).trans ?_
  rw [hb, hw]
  unfold logit
  exact congrArg (· + (argsOf m c).bcls (ix1 k)) (Finset.sum_congr rfl fun d _ =>
    congrArg (· * (argsOf m c).Wcls (ix2 d k)) (pooled_eq m c hf tl rfl M d))

/-- The line after the region cuts the scores to the instances. -/
theorem tail_3 (j : Fin 200000) : Pipeline.afterTail₀ cfgs (dats m) 0 (V0 m) [hostOps1] c main_v0_3 (ix2 0 j) = sc (argsOf m c) j := by
  have e : Pipeline.afterTail₀ cfgs (dats m) 0 (V0 m) [hostOps1] c main_v0_3
      = extractStridedSlice S1x200000 ![0, 0] ((dats m 0 c).arrAt 7 cfg0.N) slices_S1x200704_S1x200000_0_0 := by
    unfold Pipeline.afterTail₀
    simp only [hostOps1, List.flatten_cons, List.flatten_nil, List.append_nil, StableHlo.TRef.unary, StableHlo.TRef.toBuf, StableHlo.TRef.ofBuf, cast_eq]
    after_results_simp
    exact congrArg (fun x => extractStridedSlice S1x200000 ![0, 0] x slices_S1x200704_S1x200000_0_0)
      (Pipeline.withArrays_arr spec0 launch0.win.arr_inj c (V0 m c) _ 7)
  rw [e]
  exact (slice2_axis1_apply (n0 := 1) (n1 := 200704) (m := 200000) 0 _ _ 0 j ⟨j.val, lt_trans j.isLt (by norm_num)⟩ (Nat.zero_add _).symm).trans
    (final_7 m c (ix2 0 ⟨j.val, lt_trans j.isLt (by norm_num)⟩) j.isLt)

end Arrays

end Cert.Proof.K

end
-- ==== Proof.Ref.lean ====
/-
The reference's composed results read at an index: they are gated attention pooling written entry by entry.
-/
module

public import proofs.«01_k».proof.Proof.Gen.ReferenceIdeal.Run
public import proofs.«01_k».proof.Proof.Spec
public import proofs.«01_k».proof.Proof.Index

@[expose] public section

set_option maxRecDepth 16384

noncomputable section

namespace Cert.Proof.Ref

open Cert.ReferenceIdeal Cert.ReferenceIdeal.Gen Idealize.ShloMosaic Idealize.ShloMosaic.TcCoe Idealize.ShloMosaic.ValueIdx
open Cert.Proof.Spec Cert.Proof.Index
open scoped BigOperators

variable (a : Args)

/-- The hidden features, as the reference computes them. -/
def feats : FVec Ideal S200000x128 .f32 :=
  maximumf (addf (Host.dotGeneral dot_S200000x96_S96x128_S200000x128_1_0_0_1_n_n none a.h a.W)
    (broadcastInDim S200000x128 ![0, 1] bcast_S1x128_S200000x128_0_1 (broadcastInDim S1x128 ![1] bcast_S128_S1x128_1 a.b)))
    (broadcastInDim S200000x128 ![] bcast_S_S200000x128 (constant S_ .f32 0x00000000#32))

/-- A gate's argument, as the reference computes it. -/
def pre (w : FVec Ideal S128x128 .f32) (b : FVec Ideal S128 .f32) : FVec Ideal S200000x128 .f32 :=
  addf (Host.dotGeneral dot_S200000x128_S128x128_S200000x128_1_0_0_1_n_n none (feats a) w)
    (broadcastInDim S200000x128 ![0, 1] bcast_S1x128_S200000x128_0_1 (broadcastInDim S1x128 ![1] bcast_S128_S1x128_1 b))

/-- The gates' product, as the reference computes it. -/
def gates : FVec Ideal S200000x128 .f32 :=
  mulf (Host.tanh (pre a a.Wa a.ba)) (Host.divf (broadcastInDim S200000x128 ![] bcast_S_S200000x128 (constant S_ .f32 0x3F800000#32))
    (addf (broadcastInDim S200000x128 ![] bcast_S_S200000x128 (constant S_ .f32 0x3F800000#32)) (Host.exp (Host.negf (pre a a.Wb a.bb)))))

/-- The attention scores in a row, as the reference computes them. -/
def scores : FVec Ideal S1x200000 .f32 :=
  transpose S1x200000 [1, 0] (addf (Host.dotGeneral dot_S200000x128_S128x1_S200000x1_1_0_0_1_n_n none (gates a) a.Wc)
    (broadcastInDim S200000x1 ![0, 1] bcast_S1x1_S200000x1_0_1 (broadcastInDim S1x1 ![1] bcast_S1_S1x1_1 a.bc)))
    transposes_S200000x1_S1x200000_1_0

/-- The scores' maximum, as the reference computes it. -/
def level : FVec Ideal S1 .f32 :=
  maximumf (broadcastInDim S1 ![] bcast_S_S1 (constant S_ .f32 0xFF800000#32))
    (Host.reduce FloatOps.maximumf (scores a) (constant S_ .f32 0xFF800000#32) reducesTo_S1x200000_S1_d1 h_S_)

/-- The scores' exponentials, as the reference computes them. -/
def exps : FVec Ideal S1x200000 .f32 :=
  Host.exp (subf (scores a) (broadcastInDim S1x200000 ![0, 1] bcast_S1x1_S1x200000_0_1 (broadcastInDim S1x1 ![0] bcast_S1_S1x1_0 (level a))))

/-- The pooled embedding, as the reference computes it. -/
def pooled : FVec Ideal S1x128 .f32 :=
  Host.dotGeneral dot_S1x200000_S200000x128_S1x128_1_0_0_1_n_n none
    (Host.divf (exps a) (broadcastInDim S1x200000 ![0, 1] bcast_S1x1_S1x200000_0_1 (broadcastInDim S1x1 ![0] bcast_S1_S1x1_0
      (Host.reduceAdd (exps a) (constant S_ .f32 0x00000000#32) reducesTo_S1x200000_S1_d1 h_S_)))) (feats a)

/-- The logits, as the reference computes them. -/
def logits : FVec Ideal S1x2 .f32 :=
  addf (Host.dotGeneral dot_S1x128_S128x2_S1x2_1_0_0_1_n_n none (pooled a) a.Wcls) (broadcastInDim S1x2 ![1] bcast_S2_S1x2_1 a.bcls)

/-- The exponentials of logits `l`, as the reference computes them. -/
def lexps (l : FVec Ideal S1x2 .f32) : FVec Ideal S1x2 .f32 :=
  Host.exp (subf l (broadcastInDim S1x2 ![0, 1] bcast_S1x1_S1x2_0_1 (broadcastInDim S1x1 ![0] bcast_S1_S1x1_0
    (maximumf (broadcastInDim S1 ![] bcast_S_S1 (constant S_ .f32 0xFF800000#32))
      (Host.reduce FloatOps.maximumf l (constant S_ .f32 0xFF800000#32) reducesTo_S1x2_S1_d1 h_S_)))))

/-- The softmax of logits `l`, as the reference computes it. -/
def probs (l : FVec Ideal S1x2 .f32) : FVec Ideal S1x2 .f32 :=
  Host.divf (lexps l) (broadcastInDim S1x2 ![0, 1] bcast_S1x1_S1x2_0_1 (broadcastInDim S1x1 ![0] bcast_S1_S1x1_0
    (Host.reduceAdd (lexps l) (constant S_ .f32 0x00000000#32) reducesTo_S1x2_S1_d1 h_S_)))

/-- The index of the larger of logits `l`, as the reference computes it. -/
def hats (l : FVec Ideal S1x2 .f32) : IVec S1x1 32 := (Host.topK S1x1 1 (FloatOps.cmpfTotal .gt) l sliceFits_S1x2_S1x1).2

/-- The features at an instance and a coordinate. -/
theorem feats_apply (j : Fin 200000) (d : Fin 128) : feats a (ix2 j d) = hid a j d := by
  unfold feats
  rw [maximumf_apply, addf_apply, hostDot_apply dot_S200000x96_S96x128_S200000x128_1_0_0_1_n_n rfl, rows_apply, rowOf_apply, splat_apply, ofBits_zero]
  rfl

/-- A gate's argument at an instance and a coordinate. -/
theorem pre_apply (w : FVec Ideal S128x128 .f32) (b : FVec Ideal S128 .f32) (j : Fin 200000) (e : Fin 128) :
    pre a w b (ix2 j e) = affine w b (hid a j) e := by
  unfold pre
  rw [addf_apply, hostDot_apply dot_S200000x128_S128x128_S200000x128_1_0_0_1_n_n rfl, rows_apply, rowOf_apply]
  simp only [feats_apply]
  rfl

/-- The gates' product at an instance and a coordinate. -/
theorem gates_apply (j : Fin 200000) (e : Fin 128) : gates a (ix2 j e) = gate a (hid a j) e := by
  unfold gates gate
  rw [mulf_apply, hostDivf_apply, addf_apply, splat_apply, ofBits_one, ← pre_apply, ← pre_apply]
  rfl

/-- The scores at an instance. -/
theorem scores_apply (u : Fin 1) (j : Fin 200000) : scores a (ix2 u j) = sc a j := by
  unfold scores
  rw [transpose_ix2_apply]
  obtain rfl : u = 0 := Subsingleton.elim _ _
  rw [addf_apply, hostDot_apply dot_S200000x128_S128x1_S200000x1_1_0_0_1_n_n rfl, rows_apply, rowOf_apply]
  simp only [gates_apply]
  rfl

/-- The scores' maximum. -/
theorem level_apply : level a (ix1 0) = Finset.univ.fold max ⊥ fun j : Fin 200000 => sc a j := by
  unfold level
  rw [hostLevel_apply]
  simp only [scores_apply]

/-- Where the scores are real, so is their maximum. -/
theorem level_real (ha : Finite a) : ∃ M : ℝ, level a (ix1 0) = (M : EReal) := by
  rw [level_apply]
  exact Math.fold_max_real Finset.univ (fun i : Fin 200000 => sc a i) ⊥ (by simp)
    (fun i _ => by rw [sc_real ha]; exact EReal.coe_ne_top _) ⟨0, by norm_num⟩ (Finset.mem_univ _)
    (by rw [sc_real ha]; exact EReal.coe_ne_bot _)

/-- The scores' exponentials at an instance. -/
theorem exps_apply (ha : Finite a) {M : ℝ} (hM : level a (ix1 0) = (M : EReal)) (u : Fin 1) (j : Fin 200000) :
    exps a (ix2 u j) = ((Real.exp ((sc a j).toReal - M) : ℝ) : EReal) := by
  have h : exps a (ix2 u j) = Ideal.exp (scores a (ix2 u j) - level a (ix1 0)) := by
    unfold exps
    rw [← spread_apply bcast_S1_S1x1_0 bcast_S1x1_S1x200000_0_1 (level a) u j]
    rfl
  rw [h, hM, scores_apply, sc_real ha, Math.exp_coe_sub, EReal.toReal_coe]

/-- The embedding at a coordinate: it is the pooled embedding relative to some real level. -/
theorem pooled_apply (ha : Finite a) : ∃ M : ℝ, ∀ d : Fin 128, pooled a (ix2 0 d) = emb a M d := by
  obtain ⟨M, hM⟩ := level_real a ha
  refine ⟨M, fun d => ?_⟩
  unfold pooled emb
  rw [hostDot_apply dot_S1x200000_S200000x128_S1x128_1_0_0_1_n_n rfl]
  refine Finset.sum_congr rfl fun j _ => ?_
  rw [feats_apply, hostDivf_apply, spread_apply, hostSum_apply]
  simp only [exps_apply a ha hM]

/-- The logits. -/
theorem logits_apply (ha : Finite a) : ∃ M : ℝ, ∀ c : Fin 2, logits a (ix2 0 c) = logit a (emb a M) c := by
  obtain ⟨M, hM⟩ := pooled_apply a ha
  refine ⟨M, fun c => ?_⟩
  unfold logits logit
  rw [addf_apply, hostDot_apply dot_S1x128_S128x2_S1x2_1_0_0_1_n_n rfl, rowOf_apply]
  simp only [hM]

/-- The exponentials of the logits. -/
theorem lexps_apply (l : FVec Ideal S1x2 .f32) (u : Fin 1) (c : Fin 2) :
    lexps l (ix2 u c) = Ideal.exp (l (ix2 u c) - top fun i => l (ix2 0 i)) := by
  unfold lexps top
  rw [← hostLevel_apply reducesTo_S1x2_S1_d1 h_S_ bcast_S_S1 l (ix1 0),
    ← spread_apply bcast_S1_S1x1_0 bcast_S1x1_S1x2_0_1 (maximumf (broadcastInDim S1 ![] bcast_S_S1 (constant S_ .f32 0xFF800000#32))
      (Host.reduce FloatOps.maximumf l (constant S_ .f32 0xFF800000#32) reducesTo_S1x2_S1_d1 h_S_)) u c]
  rfl

/-- The softmax of the logits. -/
theorem probs_apply (l : FVec Ideal S1x2 .f32) (c : Fin 2) : probs l (ix2 0 c) = prob (fun i => l (ix2 0 i)) c := by
  unfold probs prob
  rw [hostDivf_apply, spread_apply, hostSum_apply]
  simp only [lexps_apply]

/-- The index of the larger logit. -/
theorem hats_apply (l : FVec Ideal S1x2 .f32) : hats l (ix2 0 0) = hat fun i => l (ix2 0 i) := by
  let gt : EReal → EReal → BitVec 1 := FloatOps.cmpfTotal (F := Ideal) (φ := .f32) .gt
  have hgt : ∀ x y, (gt x y == 1#1) = true ↔ y < x := fun x y => by
    show (Ideal.cmp .ogt x y == 1#1) = true ↔ _
    unfold Ideal.cmp
    by_cases h : y < x <;> simp [h]
  have hj : (fun a : Fin 2 => (⟨0 + ((ix2 0 0 : S1x1.Idx) a).val, by
      match a with | ⟨0, _⟩ => exact Nat.zero_lt_one | ⟨1, _⟩ => exact Nat.zero_lt_two⟩ : Fin (S1x2.size a))) = ix2 0 0 := by
    funext b
    match b with
    | ⟨0, _⟩ => rfl
    | ⟨1, _⟩ => rfl
  have ha : ∀ k : Fin 2, (ix2 0 0 : S1x2.Idx).along 1 k = ix2 0 k := fun k => by
    funext b
    match b with
    | ⟨0, _⟩ => rfl
    | ⟨1, _⟩ => rfl
  have e : hats l (ix2 0 0) = BitVec.ofNat 32 (sortedFrom (fun k k' : Fin 2 => gt (l (ix2 0 k)) (l (ix2 0 k')) == 1#1) 0).val := by
    have e2 : (fun k k' : Fin 2 => gt (l (ix2 0 k)) (l (ix2 0 k')) == 1#1)
        = fun k k' : Fin 2 => gt (l ((ix2 0 0 : S1x2.Idx).along 1 k)) (l ((ix2 0 0 : S1x2.Idx).along 1 k')) == 1#1 := by
      funext k k'; rw [ha, ha]
    rw [e2, ← hj]
    unfold hats Host.topK Host.sort2
    dsimp only
    unfold extractStridedSlice
    rw [dif_pos (show 1 < S1x2.rank by decide)]
    dsimp only
    rw [dif_pos (show 1 < 2 by decide)]
    rfl
  rw [e, Math.sortedFrom_two _ fun h => by
    by_contra h'
    rw [Bool.not_eq_false, hgt] at h'
    exact absurd h' (not_lt.2 ((hgt _ _).1 h).le)]
  unfold hat
  by_cases h : l (ix2 0 0) < l (ix2 0 1)
  · rw [if_pos ((hgt _ _).2 h), if_pos h]; rfl
  · rw [if_neg fun h' => h ((hgt _ _).1 h'), if_neg h]; rfl

end Cert.Proof.Ref

end
-- ==== Proof.Same.lean ====
/-
The four results the kernel ends with are the reference's terms of the same arguments.
-/
module

public import proofs.«01_k».proof.Proof.Result
public import proofs.«01_k».proof.Proof.Ref

@[expose] public section

set_option maxRecDepth 16384

noncomputable section

namespace Cert.Proof.K

open Cert.KernelIdeal Cert.KernelIdeal.Gen Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

open Cert.Proof.Index Cert.Proof.Spec

variable (m : (ℓ : Loc nD τ sig) → Buf (Elt Ideal) ℓ) (c : Dev nD)

/-- The logits the region leaves are the reference's. -/
theorem logits_same (hf : Finite (argsOf m c)) : (dats m 0 c).arrAt 8 cfg0.N = Ref.logits (argsOf m c) := by
  obtain ⟨M, hM⟩ := Ref.logits_apply (argsOf m c) hf
  refine (final_8 m c).trans (funext fun i => ?_)
  have hi : i = ix2 0 (i 1) := eq_row (n := 2) i
  rw [hi]
  exact (logits_eq m c hf M (i 1)).trans (hM (i 1)).symm

/-- Read along the row they are one function of the class. -/
theorem row_same (hf : Finite (argsOf m c)) : (fun k : Fin 2 => k0_pay2 (stAt m c 8).acc (stAt m c 8).sm (wcl m c tl) (bcl m c tl) (ix2 0 k))
    = fun k => Ref.logits (argsOf m c) (ix2 0 k) :=
  funext fun k => congrFun ((final_8 m c).symm.trans (logits_same m c hf)) (ix2 0 k)

/-- Their softmax is the reference's. -/
theorem probs_same (hf : Finite (argsOf m c)) : (dats m 0 c).arrAt 9 cfg0.N = Ref.probs (Ref.logits (argsOf m c)) := by
  refine (final_9 m c).trans (funext fun i => ?_)
  have hi : i = ix2 0 (i 1) := eq_row (n := 2) i
  rw [hi]
  exact (pay3_at _ _ _ _ (i 1)).trans ((congrArg (fun l => prob l (i 1)) (row_same m c hf)).trans (Ref.probs_apply _ (i 1)).symm)

/-- The prediction is the reference's. -/
theorem hats_same (hf : Finite (argsOf m c)) : (dats m 0 c).arrAt 10 cfg0.N = Ref.hats (Ref.logits (argsOf m c)) := by
  refine (final_10 m c).trans (funext fun i => ?_)
  have hi : i = ix2 0 0 := (eq_row (n := 1) i).trans (congrArg (ix2 0) (Subsingleton.elim (α := Fin 1) _ _))
  rw [hi]
  exact (pay4_at _ _ _ _).trans ((congrArg hat (row_same m c hf)).trans (Ref.hats_apply _).symm)

/-- The attention scores the program ends with are the reference's. -/
theorem scores_same : Pipeline.afterTail₀ cfgs (dats m) 0 (V0 m) [hostOps1] c main_v0_3 = Ref.scores (argsOf m c) := by
  funext i
  have hi : i = ix2 0 (i 1) := eq_row (n := 200000) i
  rw [hi]
  exact (tail_3 m c (i 1)).trans (Ref.scores_apply _ 0 (i 1)).symm

/-- What the program ends with, result by result. -/
theorem results_of (hf : Finite (argsOf m c)) {r}
    (h : Pipeline.FramePost cfgs (dats m) 0 (Pipeline.afterTail₀ cfgs (dats m) 0 (V0 m) [hostOps1]) r) :
    r.2.mem ((c.tc : Thread nD τ).loc main_v0_0) = Ref.logits (argsOf m c)
    ∧ r.2.mem ((c.tc : Thread nD τ).loc main_v0_1) = Ref.probs (Ref.logits (argsOf m c))
    ∧ r.2.mem ((c.tc : Thread nD τ).loc main_v0_2) = Ref.hats (Ref.logits (argsOf m c))
    ∧ r.2.mem ((c.tc : Thread nD τ).loc main_v0_3) = Ref.scores (argsOf m c) := by
  have h3 : main_v0_3 ∈ Pipeline.restRefs sig spec0 := Pipeline.mem_restRefs_of _ (by decide) (by decide)
  exact ⟨((h c).1 8).trans (logits_same m c hf), ((h c).1 9).trans (probs_same m c hf), ((h c).1 10).trans (hats_same m c hf),
    ((h c).2 main_v0_3 h3).trans (scores_same m c)⟩

end Cert.Proof.K

end
-- ==== Proof.Value.lean ====
/-
The value claim: where the last attention layer's weights and bias are finite, the kernel and the reference leave the same
four results.
-/
module

public import proofs.«01_k».proof.Defs
public import proofs.«01_k».proof.Proof.Same

@[expose] public section

set_option maxRecDepth 16384

noncomputable section

namespace Cert.Proof

open Idealize.ShloMosaic Idealize.ShloMosaic.TcCoe Idealize.ShloMosaic.ValueIdx Idealize.SL.Sem
open Cert.Proof.Spec Cert.Proof.Index

/-- The shapes the precondition's operations ask for. -/
theorem pre_facts : Cert.Pre_finite_attention.Facts where
  bcast_S_S128x1 := by decide
  bcast_S_S1 := by decide
  bcast_S1_S1x1_1 := by decide
  bcast_S1x1_S128x1_0_1 := by decide

attribute [local instance] Cert.KernelIdeal.Gen.facts Cert.ReferenceIdeal.Gen.facts pre_facts

/-- A strict comparison that reads one holds. -/
theorem lt_of_cmp {x y : EReal} (h : Ideal.cmp .olt x y = 1#1) : x < y := by
  by_contra h'
  unfold Ideal.cmp at h
  simp [h'] at h

/-- Of two bits whose conjunction is one, both are. -/
theorem both_one : ∀ {x y : BitVec 1}, x &&& y = 1#1 → x = 1#1 ∧ y = 1#1 := by decide

section Kernel
variable (m : (ℓ : Loc Cert.KernelIdeal.nD Cert.KernelIdeal.τ Cert.KernelIdeal.sig) → Buf (Elt Ideal) ℓ)

/-- The precondition says that the last attention layer is finite. -/
theorem finite_of_pre (h : Cert.Pre_KernelIdeal_finite_attention m) (c : Dev Cert.KernelIdeal.nD) : Finite (K.argsOf m c) := by
  have hb : ∀ e : Fin 128, _ := fun e => both_one (congrFun (h c) (ix2 e 0))
  exact ⟨fun e => Math.real_of_abs_lt _ (lt_of_lt_of_eq (lt_of_cmp (hb e).1) ofBits_top),
    Math.real_of_abs_lt _ (lt_of_lt_of_eq (lt_of_cmp (((rows_apply _ _ 0 0).trans (rowOf_apply _ _ 0 0)).symm.trans (hb 0).2)) ofBits_top)⟩

end Kernel

section Reference
variable (m : (ℓ : Loc Cert.ReferenceIdeal.nD Cert.ReferenceIdeal.τ Cert.ReferenceIdeal.sig) → Buf (Elt Ideal) ℓ) (c : Dev Cert.ReferenceIdeal.nD)

/-- The eleven arguments the reference is launched with. -/
def refArgs : Args where
  h := m ((c.tc : Thread _ Cert.ReferenceIdeal.τ).loc Cert.ReferenceIdeal.main_arg0)
  W := m ((c.tc : Thread _ Cert.ReferenceIdeal.τ).loc Cert.ReferenceIdeal.main_arg1)
  b := m ((c.tc : Thread _ Cert.ReferenceIdeal.τ).loc Cert.ReferenceIdeal.main_arg2)
  Wa := m ((c.tc : Thread _ Cert.ReferenceIdeal.τ).loc Cert.ReferenceIdeal.main_arg3)
  ba := m ((c.tc : Thread _ Cert.ReferenceIdeal.τ).loc Cert.ReferenceIdeal.main_arg4)
  Wb := m ((c.tc : Thread _ Cert.ReferenceIdeal.τ).loc Cert.ReferenceIdeal.main_arg5)
  bb := m ((c.tc : Thread _ Cert.ReferenceIdeal.τ).loc Cert.ReferenceIdeal.main_arg6)
  Wc := m ((c.tc : Thread _ Cert.ReferenceIdeal.τ).loc Cert.ReferenceIdeal.main_arg7)
  bc := m ((c.tc : Thread _ Cert.ReferenceIdeal.τ).loc Cert.ReferenceIdeal.main_arg8)
  Wcls := m ((c.tc : Thread _ Cert.ReferenceIdeal.τ).loc Cert.ReferenceIdeal.main_arg9)
  bcls := m ((c.tc : Thread _ Cert.ReferenceIdeal.τ).loc Cert.ReferenceIdeal.main_arg10)

/-- The reference's results are its terms of the arguments: the logits, … -/
theorem ref_logits : Cert.ReferenceIdeal.Value.res_main_v40 m c = Ref.logits (refArgs m c) := rfl
/-- … their softmax … -/
theorem ref_probs : Cert.ReferenceIdeal.Value.res_main_v51 m c = Ref.probs (Ref.logits (refArgs m c)) := rfl
/-- … and the prediction. -/
theorem ref_hats : Cert.ReferenceIdeal.Value.res_main_indices m c = Ref.hats (Ref.logits (refArgs m c)) := rfl

end Reference

/-- Arguments are equal where all eleven are. -/
theorem args_ext : ∀ {a a' : Args}, a.h = a'.h → a.W = a'.W → a.b = a'.b → a.Wa = a'.Wa → a.ba = a'.ba → a.Wb = a'.Wb → a.bb = a'.bb →
    a.Wc = a'.Wc → a.bc = a'.bc → a.Wcls = a'.Wcls → a.bcls = a'.bcls → a = a'
  | ⟨_, _, _, _, _, _, _, _, _, _, _⟩, ⟨_, _, _, _, _, _, _, _, _, _, _⟩, rfl, rfl, rfl, rfl, rfl, rfl, rfl, rfl, rfl, rfl, rfl => rfl

/-- The kernel and the reference leave the same four results. -/
theorem algebraic : Cert.algebraic_KernelIdeal_ReferenceIdeal_pre_finite_attention := by
  intro m g m' g' hp ha
  have hf := finite_of_pre m hp
  have he : ∀ c, refArgs m' c = K.argsOf m c := fun c => by
    obtain ⟨h0, h1, h2, h3, h4, h5, h6, h7, h8, h9, h10⟩ := ha c
    exact args_ext h0 h1 h2 h3 h4 h5 h6 h7 h8 h9 h10
  refine ⟨fun c => Ref.logits (K.argsOf m c), fun c => Ref.probs (Ref.logits (K.argsOf m c)),
    fun c => Ref.hats (Ref.logits (K.argsOf m c)), fun c => Ref.scores (K.argsOf m c), ?_, ?_⟩
  · refine (θ_run _ _ _).mono (fun r h c => ?_) (K.run m g)
    obtain ⟨e0, e1, e2, e3⟩ := K.results_of m c (hf c) h.1
    exact ⟨e0, e1, e2, e3, K.args_of m (fun _ _ => rfl) h.1 c⟩
  · refine (θ_run _ _ _).mono (fun r h c => ?_) (Cert.ReferenceIdeal.Value.run m' g')
    obtain ⟨e0, e1, e2, e3, hargs⟩ := h c
    have e3' : r.2.mem ((c.tc : Thread _ Cert.ReferenceIdeal.τ).loc Cert.ReferenceIdeal.main_v25) = Ref.scores (refArgs m' c) := e3
    exact ⟨e0.trans ((ref_logits m' c).trans (congrArg (fun a => Ref.logits a) (he c))),
      e1.trans ((ref_probs m' c).trans (congrArg (fun a => Ref.probs (Ref.logits a)) (he c))),
      e2.trans ((ref_hats m' c).trans (congrArg (fun a => Ref.hats (Ref.logits a)) (he c))),
      e3'.trans (congrArg (fun a => Ref.scores a) (he c)), hargs⟩

end Cert.Proof

end
-- ==== Proof.lean ====
module

public import proofs.«01_k».proof.Defs
public import proofs.«01_k».proof.Proof.Frames
public import proofs.«01_k».proof.Proof.Value

@[expose] public section

noncomputable section

namespace Cert.Proof

/-- Everything claimed of the kernel. -/
theorem claim : Cert.Claim := ⟨Cert.Kernel.Gen.facts, Cert.KernelIdeal.Gen.facts, Cert.ReferenceIdeal.Gen.facts, pre_facts,
  frame_Kernel, frame_KernelIdeal, fun m g _ => frame_KernelIdeal m g trivial, frame_ReferenceIdeal,
  fun m g _ => frame_ReferenceIdeal m g trivial, trivial, algebraic⟩

end Cert.Proof

end
